-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def preserves_Kernel_KernelIdeal : Prop :=
  IdealRules.bf16_pair.PackStatement Cert.KernelIdeal.S512x128
  ∧ IdealRules.bf16_pair.Statement Cert.KernelIdeal.S512x1x2x128 Cert.KernelIdeal.S512x1x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Quant_QuantIdeal : Prop :=
  True

def algebraic_QuantIdeal_QuantReferenceIdeal [hQuantIdeal : Cert.QuantIdeal.Facts] [hQuantReferenceIdeal : Cert.QuantReferenceIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v1_0)) (v1 : (c : Dev Cert.QuantIdeal.nD) → Buf (Elt Ideal) ((c.tc : Thread Cert.QuantIdeal.nD Cert.QuantIdeal.τ).loc Cert.QuantIdeal.main_v1_1)) (v2 : (c : Dev Cert.QuantIdeal.nD) → Buf (Elt Ideal) ((c.tc : Thread Cert.QuantIdeal.nD Cert.QuantIdeal.τ).loc Cert.QuantIdeal.main_v1_2)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v1_0) = v0 c
          ∧ r.2.mem ((c.tc : Thread Cert.QuantIdeal.nD Cert.QuantIdeal.τ).loc Cert.QuantIdeal.main_v1_1) = v1 c
          ∧ r.2.mem ((c.tc : Thread Cert.QuantIdeal.nD Cert.QuantIdeal.τ).loc Cert.QuantIdeal.main_v1_2) = v2 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v0_0) = v0 c
          ∧ r.2.mem ((c.tc : Thread Cert.QuantReferenceIdeal.nD Cert.QuantReferenceIdeal.τ).loc Cert.QuantReferenceIdeal.main_v0_1) = v1 c
          ∧ r.2.mem ((c.tc : Thread Cert.QuantReferenceIdeal.nD Cert.QuantReferenceIdeal.τ).loc Cert.QuantReferenceIdeal.main_v0_2) = v2 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantReferenceIdeal : Cert.QuantReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Quant (hQuant := hQuant)
    ∧ quiescent_QuantIdeal (hQuantIdeal := hQuantIdeal)
    ∧ quiescent_QuantReferenceIdeal (hQuantReferenceIdeal := hQuantReferenceIdeal)
    ∧ preserves_Kernel_KernelIdeal
    ∧ algebraic_KernelIdeal_ReferenceIdeal (hKernelIdeal := hKernelIdeal) (hReferenceIdeal := hReferenceIdeal)
    ∧ preserves_Quant_QuantIdeal
    ∧ algebraic_QuantIdeal_QuantReferenceIdeal (hQuantIdeal := hQuantIdeal) (hQuantReferenceIdeal := hQuantReferenceIdeal)
-- ==== Kernel.lean ====
abbrev S12288x5376 : Shape := ⟨2, ![12288, 5376]⟩
abbrev S5376x8192 : Shape := ⟨2, ![5376, 8192]⟩
abbrev S42x64 : Shape := ⟨2, ![42, 64]⟩
abbrev S128 : Shape := ⟨1, ![128]⟩
abbrev S1x128 : Shape := ⟨2, ![1, 128]⟩
abbrev S12288x4x8x128 : Shape := ⟨4, ![12288, 4, 8, 128]⟩
abbrev S12288x2x8x128 : Shape := ⟨4, ![12288, 2, 8, 128]⟩
abbrev S512x5376 : Shape := ⟨2, ![512, 5376]⟩
abbrev S5376x1024 : Shape := ⟨2, ![5376, 1024]⟩
abbrev S512x1x8x128 : Shape := ⟨4, ![512, 1, 8, 128]⟩
abbrev S1x1 : Shape := ⟨2, ![1, 1]⟩
abbrev S128x128 : Shape := ⟨2, ![128, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x1x4x128 : Shape := ⟨4, ![512, 1, 4, 128]⟩
abbrev S2048x128 : Shape := ⟨2, ![2048, 128]⟩
abbrev S512x1x2x128 : Shape := ⟨4, ![512, 1, 2, 128]⟩
abbrev S512x1x1x128 : Shape := ⟨4, ![512, 1, 1, 128]⟩

abbrev nBuf : Space → Nat
  | .hbm => 10
  | .vmem => 13
  | .smem => 1
  | _ => 0

abbrev bufTy : (tb : Table) → Fin (tcTables nBuf tb) → BufTy
  | .hbm, ⟨0, _⟩ => ⟨S12288x5376, .bf16⟩
  | .hbm, ⟨1, _⟩ => ⟨S5376x8192, .fp8e4m3⟩
  | .hbm, ⟨2, _⟩ => ⟨S42x64, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S12288x4x8x128, .bf16⟩
  | .hbm, ⟨8, _⟩ => ⟨S12288x2x8x128, .bf16⟩
  | .hbm, ⟨9, _⟩ => ⟨S12288x2x8x128, .bf16⟩
  | .local _ .vmem, ⟨0, _⟩ => ⟨S512x5376, .bf16⟩
  | .local _ .vmem, ⟨1, _⟩ => ⟨S512x5376, .bf16⟩
  | .local _ .vmem, ⟨2, _⟩ => ⟨S5376x1024, .fp8e4m3⟩
  | .local _ .vmem, ⟨3, _⟩ => ⟨S5376x1024, .fp8e4m3⟩
  | .local _ .vmem, ⟨4, _⟩ => ⟨S1x128, .f32⟩
  | .local _ .vmem, ⟨5, _⟩ => ⟨S1x128, .f32⟩
  | .local _ .vmem, ⟨6, _⟩ => ⟨S512x1x8x128, .bf16⟩
  | .local _ .vmem, ⟨7, _⟩ => ⟨S512x1x8x128, .bf16⟩
  | .local _ .vmem, ⟨8, _⟩ => ⟨S512x1x8x128, .bf16⟩
  | .local _ .vmem, ⟨9, _⟩ => ⟨S512x1x8x128, .bf16⟩
  | .local _ .vmem, ⟨10, _⟩ => ⟨S512x1x8x128, .bf16⟩
  | .local _ .vmem, ⟨11, _⟩ => ⟨S512x1x8x128, .bf16⟩
  | .local _ .vmem, ⟨12, _⟩ => ⟨S5376x1024, .bf16⟩
  | .local _ .smem, ⟨0, _⟩ => ⟨S42x64, .f32⟩
  | _, _ => ⟨S12288x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [BitOps F]

abbrev grid0 : Pipeline.Grid := ⟨2, ![24, 8], ![false, false]⟩

def k0_off1 (i : grid0.Coords) (c0_i32 : BitVec 32) : Fin 2 → Nat :=
  let c0 : Index := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let v2 : Index := Scalar.indexCast v1
  ![0, v2.toNat]
def k0_off2 (i : grid0.Coords) (c0_i32_40 : BitVec 32) : Fin 2 → Nat :=
  let c1 : Index := 1#32
  let arg1 : BitVec 32 := BitVec.ofNat 32 (i 1).val
  let c8_i32_39 : BitVec 32 := 8#32
  let v96 : BitVec 32 := Scalar.muli arg1 c8_i32_39
  let v97 : BitVec 32 := Scalar.addi v96 c0_i32_40
  let v98 : Index := Scalar.indexCast v97
  ![1, v98.toNat]
def k0_off3 (i : grid0.Coords) (c0_i32_95 : BitVec 32) : Fin 2 → Nat :=
  let c2 : Index := 2#32
  let arg1 : BitVec 32 := BitVec.ofNat 32 (i 1).val
  let c8_i32_94 : BitVec 32 := 8#32
  let v192 : BitVec 32 := Scalar.muli arg1 c8_i32_94
  let v193 : BitVec 32 := Scalar.addi v192 c0_i32_95
  let v194 : Index := Scalar.indexCast v193
  ![2, v194.toNat]
def k0_off4 (i : grid0.Coords) (c0_i32_150 : BitVec 32) : Fin 2 → Nat :=
  let c3 : Index := 3#32
  let arg1 : BitVec 32 := BitVec.ofNat 32 (i 1).val
  let c8_i32_149 : BitVec 32 := 8#32
  let v288 : BitVec 32 := Scalar.muli arg1 c8_i32_149
  let v289 : BitVec 32 := Scalar.addi v288 c0_i32_150
  let v290 : Index := Scalar.indexCast v289
  ![3, v290.toNat]
def k0_off5 (i : grid0.Coords) (c0_i32_205 : BitVec 32) : Fin 2 → Nat :=
  let c4 : Index := 4#32
  let arg1 : BitVec 32 := BitVec.ofNat 32 (i 1).val
  let c8_i32_204 : BitVec 32 := 8#32
  let v384 : BitVec 32 := Scalar.muli arg1 c8_i32_204
  let v385 : BitVec 32 := Scalar.addi v384 c0_i32_205
  let v386 : Index := Scalar.indexCast v385
  ![4, v386.toNat]
def k0_off6 (i : grid0.Coords) (c0_i32_260 : BitVec 32) : Fin 2 → Nat :=
  let c5 : Index := 5#32
  let arg1 : BitVec 32 := BitVec.ofNat 32 (i 1).val
  let c8_i32_259 : BitVec 32 := 8#32
  let v480 : BitVec 32 := Scalar.muli arg1 c8_i32_259
  let v481 : BitVec 32 := Scalar.addi v480 c0_i32_260
  let v482 : Index := Scalar.indexCast v481
  ![5, v482.toNat]
def k0_off7 (i : grid0.Coords) (c0_i32_315 : BitVec 32) : Fin 2 → Nat :=
  let c6 : Index := 6#32
  let arg1 : BitVec 32 := BitVec.ofNat 32 (i 1).val
  let c8_i32_314 : BitVec 32 := 8#32
  let v576 : BitVec 32 := Scalar.muli arg1 c8_i32_314
  let v577 : BitVec 32 := Scalar.addi v576 c0_i32_315
  let v578 : Index := Scalar.indexCast v577
  ![6, v578.toNat]
def k0_off8 (i : grid0.Coords) (c0_i32_370 : BitVec 32) : Fin 2 → Nat :=
  let c7 : Index := 7#32
  let arg1 : BitVec 32 := BitVec.ofNat 32 (i 1).val
  let c8_i32_369 : BitVec 32 := 8#32
  let v672 : BitVec 32 := Scalar.muli arg1 c8_i32_369
  let v673 : BitVec 32 := Scalar.addi v672 c0_i32_370
  let v674 : Index := Scalar.indexCast v673
  ![7, v674.toNat]
def k0_off9 (i : grid0.Coords) (c0_i32_425 : BitVec 32) : Fin 2 → Nat :=
  let c8 : Index := 8#32
  let arg1 : BitVec 32 := BitVec.ofNat 32 (i 1).val
  let c8_i32_424 : BitVec 32 := 8#32
  let v768 : BitVec 32 := Scalar.muli arg1 c8_i32_424
  let v769 : BitVec 32 := Scalar.addi v768 c0_i32_425
  let v770 : Index := Scalar.indexCast v769
  ![8, v770.toNat]
def k0_off10 (i : grid0.Coords) (c0_i32_479 : BitVec 32) : Fin 2 → Nat :=
  let c9 : Index := 9#32
  let arg1 : BitVec 32 := BitVec.ofNat 32 (i 1).val
  let c8_i32_478 : BitVec 32 := 8#32
  let v864 : BitVec 32 := Scalar.muli arg1 c8_i32_478
  let v865 : BitVec 32 := Scalar.addi v864 c0_i32_479
  let v866 : Index := Scalar.indexCast v865
  ![9, v866.toNat]
def k0_off11 (i : grid0.Coords) (c0_i32_533 : BitVec 32) : Fin 2 → Nat :=
  let c10 : Index := 10#32
  let arg1 : BitVec 32 := BitVec.ofNat 32 (i 1).val
  let c8_i32_532 : BitVec 32 := 8#32
  let v960 : BitVec 32 := Scalar.muli arg1 c8_i32_532
  let v961 : BitVec 32 := Scalar.addi v960 c0_i32_533
  let v962 : Index := Scalar.indexCast v961
  ![10, v962.toNat]
def k0_off12 (i : grid0.Coords) (c0_i32_587 : BitVec 32) : Fin 2 → Nat :=
  let c11 : Index := 11#32
  let arg1 : BitVec 32 := BitVec.ofNat 32 (i 1).val
  let c8_i32_586 : BitVec 32 := 8#32
  let v1056 : BitVec 32 := Scalar.muli arg1 c8_i32_586
  let v1057 : BitVec 32 := Scalar.addi v1056 c0_i32_587
  let v1058 : Index := Scalar.indexCast v1057
  ![11, v1058.toNat]
def k0_off13 (i : grid0.Coords) (c0_i32_641 : BitVec 32) : Fin 2 → Nat :=
  let c12 : Index := 12#32
  let arg1 : BitVec 32 := BitVec.ofNat 32 (i 1).val
  let c8_i32_640 : BitVec 32 := 8#32
  let v1152 : BitVec 32 := Scalar.muli arg1 c8_i32_640
  let v1153 : BitVec 32 := Scalar.addi v1152 c0_i32_641
  let v1154 : Index := Scalar.indexCast v1153
  ![12, v1154.toNat]
def k0_off14 (i : grid0.Coords) (c0_i32_695 : BitVec 32) : Fin 2 → Nat :=
  let c13 : Index := 13#32
  let arg1 : BitVec 32 := BitVec.ofNat 32 (i 1).val
  let c8_i32_694 : BitVec 32 := 8#32
  let v1248 : BitVec 32 := Scalar.muli arg1 c8_i32_694
  let v1249 : BitVec 32 := Scalar.addi v1248 c0_i32_695
  let v1250 : Index := Scalar.indexCast v1249
  ![13, v1250.toNat]
def k0_off15 (i : grid0.Coords) (c0_i32_749 : BitVec 32) : Fin 2 → Nat :=
  let c14 : Index := 14#32
  let arg1 : BitVec 32 := BitVec.ofNat 32 (i 1).val
  let c8_i32_748 : BitVec 32 := 8#32
  let v1344 : BitVec 32 := Scalar.muli arg1 c8_i32_748
  let v1345 : BitVec 32 := Scalar.addi v1344 c0_i32_749
  let v1346 : Index := Scalar.indexCast v1345
  ![14, v1346.toNat]
def k0_off16 (i : grid0.Coords) (c0_i32_803 : BitVec 32) : Fin 2 → Nat :=
  let c15 : Index := 15#32
  let arg1 : BitVec 32 := BitVec.ofNat 32 (i 1).val
  let c8_i32_802 : BitVec 32 := 8#32
  let v1440 : BitVec 32 := Scalar.muli arg1 c8_i32_802
  let v1441 : BitVec 32 := Scalar.addi v1440 c0_i32_803
  let v1442 : Index := Scalar.indexCast v1441
  ![15, v1442.toNat]
def k0_off17 (i : grid0.Coords) (c0_i32_857 : BitVec 32) : Fin 2 → Nat :=
  let c16 : Index := 16#32
  let arg1 : BitVec 32 := BitVec.ofNat 32 (i 1).val
  let c8_i32_856 : BitVec 32 := 8#32
  let v1536 : BitVec 32 := Scalar.muli arg1 c8_i32_856
  let v1537 : BitVec 32 := Scalar.addi v1536 c0_i32_857
  let v1538 : Index := Scalar.indexCast v1537
  ![16, v1538.toNat]
def k0_off18 (i : grid0.Coords) (c0_i32_911 : BitVec 32) : Fin 2 → Nat :=
  let c17 : Index := 17#32
  let arg1 : BitVec 32 := BitVec.ofNat 32 (i 1).val
  let c8_i32_910 : BitVec 32 := 8#32
  let v1632 : BitVec 32 := Scalar.muli arg1 c8_i32_910
  let v1633 : BitVec 32 := Scalar.addi v1632 c0_i32_911
  let v1634 : Index := Scalar.indexCast v1633
  ![17, v1634.toNat]
def k0_off19 (i : grid0.Coords) (c0_i32_965 : BitVec 32) : Fin 2 → Nat :=
  let c18 : Index := 18#32
  let arg1 : BitVec 32 := BitVec.ofNat 32 (i 1).val
  let c8_i32_964 : BitVec 32 := 8#32
  let v1728 : BitVec 32 := Scalar.muli arg1 c8_i32_964
  let v1729 : BitVec 32 := Scalar.addi v1728 c0_i32_965
  let v1730 : Index := Scalar.indexCast v1729
  ![18, v1730.toNat]
def k0_off20 (i : grid0.Coords) (c0_i32_1019 : BitVec 32) : Fin 2 → Nat :=
  let c19 : Index := 19#32
  let arg1 : BitVec 32 := BitVec.ofNat 32 (i 1).val
  let c8_i32_1018 : BitVec 32 := 8#32
  let v1824 : BitVec 32 := Scalar.muli arg1 c8_i32_1018
  let v1825 : BitVec 32 := Scalar.addi v1824 c0_i32_1019
  let v1826 : Index := Scalar.indexCast v1825
  ![19, v1826.toNat]
def k0_off21 (i : grid0.Coords) (c0_i32_1073 : BitVec 32) : Fin 2 → Nat :=
  let c20 : Index := 20#32
  let arg1 : BitVec 32 := BitVec.ofNat 32 (i 1).val
  let c8_i32_1072 : BitVec 32 := 8#32
  let v1920 : BitVec 32 := Scalar.muli arg1 c8_i32_1072
  let v1921 : BitVec 32 := Scalar.addi v1920 c0_i32_1073
  let v1922 : Index := Scalar.indexCast v1921
  ![20, v1922.toNat]
def k0_off22 (i : grid0.Coords) (c0_i32_1127 : BitVec 32) : Fin 2 → Nat :=
  let c21 : Index := 21#32
  let arg1 : BitVec 32 := BitVec.ofNat 32 (i 1).val
  let c8_i32_1126 : BitVec 32 := 8#32
  let v2016 : BitVec 32 := Scalar.muli arg1 c8_i32_1126
  let v2017 : BitVec 32 := Scalar.addi v2016 c0_i32_1127
  let v2018 : Index := Scalar.indexCast v2017
  ![21, v2018.toNat]
def k0_off23 (i : grid0.Coords) (c0_i32_1181 : BitVec 32) : Fin 2 → Nat :=
  let c22 : Index := 22#32
  let arg1 : BitVec 32 := BitVec.ofNat 32 (i 1).val
  let c8_i32_1180 : BitVec 32 := 8#32
  let v2112 : BitVec 32 := Scalar.muli arg1 c8_i32_1180
  let v2113 : BitVec 32 := Scalar.addi v2112 c0_i32_1181
  let v2114 : Index := Scalar.indexCast v2113
  ![22, v2114.toNat]
def k0_off24 (i : grid0.Coords) (c0_i32_1235 : BitVec 32) : Fin 2 → Nat :=
  let c23 : Index := 23#32
  let arg1 : BitVec 32 := BitVec.ofNat 32 (i 1).val
  let c8_i32_1234 : BitVec 32 := 8#32
  let v2208 : BitVec 32 := Scalar.muli arg1 c8_i32_1234
  let v2209 : BitVec 32 := Scalar.addi v2208 c0_i32_1235
  let v2210 : Index := Scalar.indexCast v2209
  ![23, v2210.toNat]
def k0_off25 (i : grid0.Coords) (c0_i32_1289 : BitVec 32) : Fin 2 → Nat :=
  let c24 : Index := 24#32
  let arg1 : BitVec 32 := BitVec.ofNat 32 (i 1).val
  let c8_i32_1288 : BitVec 32 := 8#32
  let v2304 : BitVec 32 := Scalar.muli arg1 c8_i32_1288
  let v2305 : BitVec 32 := Scalar.addi v2304 c0_i32_1289
  let v2306 : Index := Scalar.indexCast v2305
  ![24, v2306.toNat]
def k0_off26 (i : grid0.Coords) (c0_i32_1343 : BitVec 32) : Fin 2 → Nat :=
  let c25 : Index := 25#32
  let arg1 : BitVec 32 := BitVec.ofNat 32 (i 1).val
  let c8_i32_1342 : BitVec 32 := 8#32
  let v2400 : BitVec 32 := Scalar.muli arg1 c8_i32_1342
  let v2401 : BitVec 32 := Scalar.addi v2400 c0_i32_1343
  let v2402 : Index := Scalar.indexCast v2401
  ![25, v2402.toNat]
def k0_off27 (i : grid0.Coords) (c0_i32_1397 : BitVec 32) : Fin 2 → Nat :=
  let c26 : Index := 26#32
  let arg1 : BitVec 32 := BitVec.ofNat 32 (i 1).val
  let c8_i32_1396 : BitVec 32 := 8#32
  let v2496 : BitVec 32 := Scalar.muli arg1 c8_i32_1396
  let v2497 : BitVec 32 := Scalar.addi v2496 c0_i32_1397
  let v2498 : Index := Scalar.indexCast v2497
  ![26, v2498.toNat]
def k0_off28 (i : grid0.Coords) (c0_i32_1451 : BitVec 32) : Fin 2 → Nat :=
  let c27 : Index := 27#32
  let arg1 : BitVec 32 := BitVec.ofNat 32 (i 1).val
  let c8_i32_1450 : BitVec 32 := 8#32
  let v2592 : BitVec 32 := Scalar.muli arg1 c8_i32_1450
  let v2593 : BitVec 32 := Scalar.addi v2592 c0_i32_1451
  let v2594 : Index := Scalar.indexCast v2593
  ![27, v2594.toNat]
def k0_off29 (i : grid0.Coords) (c0_i32_1505 : BitVec 32) : Fin 2 → Nat :=
  let c28 : Index := 28#32
  let arg1 : BitVec 32 := BitVec.ofNat 32 (i 1).val
  let c8_i32_1504 : BitVec 32 := 8#32
  let v2688 : BitVec 32 := Scalar.muli arg1 c8_i32_1504
  let v2689 : BitVec 32 := Scalar.addi v2688 c0_i32_1505
  let v2690 : Index := Scalar.indexCast v2689
  ![28, v2690.toNat]
def k0_off30 (i : grid0.Coords) (c0_i32_1559 : BitVec 32) : Fin 2 → Nat :=
  let c29 : Index := 29#32
  let arg1 : BitVec 32 := BitVec.ofNat 32 (i 1).val
  let c8_i32_1558 : BitVec 32 := 8#32
  let v2784 : BitVec 32 := Scalar.muli arg1 c8_i32_1558
  let v2785 : BitVec 32 := Scalar.addi v2784 c0_i32_1559
  let v2786 : Index := Scalar.indexCast v2785
  ![29, v2786.toNat]
def k0_off31 (i : grid0.Coords) (c0_i32_1613 : BitVec 32) : Fin 2 → Nat :=
  let c30 : Index := 30#32
  let arg1 : BitVec 32 := BitVec.ofNat 32 (i 1).val
  let c8_i32_1612 : BitVec 32 := 8#32
  let v2880 : BitVec 32 := Scalar.muli arg1 c8_i32_1612
  let v2881 : BitVec 32 := Scalar.addi v2880 c0_i32_1613
  let v2882 : Index := Scalar.indexCast v2881
  ![30, v2882.toNat]
def k0_off32 (i : grid0.Coords) (c0_i32_1667 : BitVec 32) : Fin 2 → Nat :=
  let c31 : Index := 31#32
  let arg1 : BitVec 32 := BitVec.ofNat 32 (i 1).val
  let c8_i32_1666 : BitVec 32 := 8#32
  let v2976 : BitVec 32 := Scalar.muli arg1 c8_i32_1666
  let v2977 : BitVec 32 := Scalar.addi v2976 c0_i32_1667
  let v2978 : Index := Scalar.indexCast v2977
  ![31, v2978.toNat]
def k0_off33 (i : grid0.Coords) (c0_i32_1721 : BitVec 32) : Fin 2 → Nat :=
  let c32 : Index := 32#32
  let arg1 : BitVec 32 := BitVec.ofNat 32 (i 1).val
  let c8_i32_1720 : BitVec 32 := 8#32
  let v3072 : BitVec 32 := Scalar.muli arg1 c8_i32_1720
  let v3073 : BitVec 32 := Scalar.addi v3072 c0_i32_1721
  let v3074 : Index := Scalar.indexCast v3073
  ![32, v3074.toNat]
def k0_off34 (i : grid0.Coords) (c0_i32_1775 : BitVec 32) : Fin 2 → Nat :=
  let c33 : Index := 33#32
  let arg1 : BitVec 32 := BitVec.ofNat 32 (i 1).val
  let c8_i32_1774 : BitVec 32 := 8#32
  let v3168 : BitVec 32 := Scalar.muli arg1 c8_i32_1774
  let v3169 : BitVec 32 := Scalar.addi v3168 c0_i32_1775
  let v3170 : Index := Scalar.indexCast v3169
  ![33, v3170.toNat]
def k0_off35 (i : grid0.Coords) (c0_i32_1829 : BitVec 32) : Fin 2 → Nat :=
  let c34 : Index := 34#32
  let arg1 : BitVec 32 := BitVec.ofNat 32 (i 1).val
  let c8_i32_1828 : BitVec 32 := 8#32
  let v3264 : BitVec 32 := Scalar.muli arg1 c8_i32_1828
  let v3265 : BitVec 32 := Scalar.addi v3264 c0_i32_1829
  let v3266 : Index := Scalar.indexCast v3265
  ![34, v3266.toNat]
def k0_off36 (i : grid0.Coords) (c0_i32_1883 : BitVec 32) : Fin 2 → Nat :=
  let c35 : Index := 35#32
  let arg1 : BitVec 32 := BitVec.ofNat 32 (i 1).val
  let c8_i32_1882 : BitVec 32 := 8#32
  let v3360 : BitVec 32 := Scalar.muli arg1 c8_i32_1882
  let v3361 : BitVec 32 := Scalar.addi v3360 c0_i32_1883
  let v3362 : Index := Scalar.indexCast v3361
  ![35, v3362.toNat]
def k0_off37 (i : grid0.Coords) (c0_i32_1937 : BitVec 32) : Fin 2 → Nat :=
  let c36 : Index := 36#32
  let arg1 : BitVec 32 := BitVec.ofNat 32 (i 1).val
  let c8_i32_1936 : BitVec 32 := 8#32
  let v3456 : BitVec 32 := Scalar.muli arg1 c8_i32_1936
  let v3457 : BitVec 32 := Scalar.addi v3456 c0_i32_1937
  let v3458 : Index := Scalar.indexCast v3457
  ![36, v3458.toNat]
def k0_off38 (i : grid0.Coords) (c0_i32_1991 : BitVec 32) : Fin 2 → Nat :=
  let c37 : Index := 37#32
  let arg1 : BitVec 32 := BitVec.ofNat 32 (i 1).val
  let c8_i32_1990 : BitVec 32 := 8#32
  let v3552 : BitVec 32 := Scalar.muli arg1 c8_i32_1990
  let v3553 : BitVec 32 := Scalar.addi v3552 c0_i32_1991
  let v3554 : Index := Scalar.indexCast v3553
  ![37, v3554.toNat]
def k0_off39 (i : grid0.Coords) (c0_i32_2045 : BitVec 32) : Fin 2 → Nat :=
  let c38 : Index := 38#32
  let arg1 : BitVec 32 := BitVec.ofNat 32 (i 1).val
  let c8_i32_2044 : BitVec 32 := 8#32
  let v3648 : BitVec 32 := Scalar.muli arg1 c8_i32_2044
  let v3649 : BitVec 32 := Scalar.addi v3648 c0_i32_2045
  let v3650 : Index := Scalar.indexCast v3649
  ![38, v3650.toNat]
def k0_off40 (i : grid0.Coords) (c0_i32_2099 : BitVec 32) : Fin 2 → Nat :=
  let c39 : Index := 39#32
  let arg1 : BitVec 32 := BitVec.ofNat 32 (i 1).val
  let c8_i32_2098 : BitVec 32 := 8#32
  let v3744 : BitVec 32 := Scalar.muli arg1 c8_i32_2098
  let v3745 : BitVec 32 := Scalar.addi v3744 c0_i32_2099
  let v3746 : Index := Scalar.indexCast v3745
  ![39, v3746.toNat]
def k0_off41 (i : grid0.Coords) (c0_i32_2153 : BitVec 32) : Fin 2 → Nat :=
  let c40 : Index := 40#32
  let arg1 : BitVec 32 := BitVec.ofNat 32 (i 1).val
  let c8_i32_2152 : BitVec 32 := 8#32
  let v3840 : BitVec 32 := Scalar.muli arg1 c8_i32_2152
  let v3841 : BitVec 32 := Scalar.addi v3840 c0_i32_2153
  let v3842 : Index := Scalar.indexCast v3841
  ![40, v3842.toNat]
def k0_off42 (i : grid0.Coords) (c0_i32_2207 : BitVec 32) : Fin 2 → Nat :=
  let c41 : Index := 41#32
  let arg1 : BitVec 32 := BitVec.ofNat 32 (i 1).val
  let c8_i32_2206 : BitVec 32 := 8#32
  let v3936 : BitVec 32 := Scalar.muli arg1 c8_i32_2206
  let v3937 : BitVec 32 := Scalar.addi v3936 c0_i32_2207
  let v3938 : Index := Scalar.indexCast v3937
  ![41, v3938.toNat]
def k0_cond1 (i : grid0.Coords) : BitVec 1 :=
  let arg1 : BitVec 32 := BitVec.ofNat 32 (i 1).val
  let c4_i32_2264 : BitVec 32 := 4#32
  let v4035 : BitVec 1 := Scalar.cmpi .slt arg1 c4_i32_2264
  let v4036 : BitVec 32 := Scalar.extui v4035
  let c0_i32_2265 : BitVec 32 := 0#32
  let v4037 : BitVec 1 := Scalar.cmpi .ne v4036 c0_i32_2265
  v4037

def k0_cond2 (i : grid0.Coords) : BitVec 1 :=
  let arg1 : BitVec 32 := BitVec.ofNat 32 (i 1).val
  let c4_i32_2266 : BitVec 32 := 4#32
  let v4038 : BitVec 1 := Scalar.cmpi .sge arg1 c4_i32_2266
  let c6_i32_2267 : BitVec 32 := 6#32
  let v4039 : BitVec 1 := Scalar.cmpi .slt arg1 c6_i32_2267
  let v4040 : BitVec 1 := Scalar.andi v4038 v4039
  let v4041 : BitVec 32 := Scalar.extui v4040
  let c0_i32_2268 : BitVec 32 := 0#32
  let v4042 : BitVec 1 := Scalar.cmpi .ne v4041 c0_i32_2268
  v4042

def k0_cond3 (i : grid0.Coords) : BitVec 1 :=
  let arg1 : BitVec 32 := BitVec.ofNat 32 (i 1).val
  let c6_i32_2269 : BitVec 32 := 6#32
  let v4043 : BitVec 1 := Scalar.cmpi .sge arg1 c6_i32_2269
  let v4044 : BitVec 32 := Scalar.extui v4043
  let c0_i32_2270 : BitVec 32 := 0#32
  let v4045 : BitVec 1 := Scalar.cmpi .ne v4044 c0_i32_2270
  v4045

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![arg0.toNat, v2.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![arg0.toNat, v2.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![arg0.toNat, v2.toNat, c0_i32_0.toNat, c0_i32_1.toNat]

abbrev stage0_0 : Fin 2 → Memref sig .tc .vmem S512x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5376x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S42x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1x8x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F]
-- ==== ReferenceIdeal.lean ====
abbrev S12288x5376 : Shape := ⟨2, ![12288, 5376]⟩
abbrev S5376x8192 : Shape := ⟨2, ![5376, 8192]⟩
abbrev S42x64 : Shape := ⟨2, ![42, 64]⟩
abbrev S128 : Shape := ⟨1, ![128]⟩
abbrev S12288x4x8x128 : Shape := ⟨4, ![12288, 4, 8, 128]⟩
abbrev S12288x2x8x128 : Shape := ⟨4, ![12288, 2, 8, 128]⟩
abbrev S42x128x64x128 : Shape := ⟨4, ![42, 128, 64, 128]⟩
abbrev S42x1x64x1 : Shape := ⟨4, ![42, 1, 64, 1]⟩
abbrev S12288x8192 : Shape := ⟨2, ![12288, 8192]⟩
abbrev S12288x4096 : Shape := ⟨2, ![12288, 4096]⟩
abbrev S12288x32x128 : Shape := ⟨3, ![12288, 32, 128]⟩
abbrev S12288x2048 : Shape := ⟨2, ![12288, 2048]⟩
abbrev S12288x16x128 : Shape := ⟨3, ![12288, 16, 128]⟩
abbrev S12288x32 : Shape := ⟨2, ![12288, 32]⟩
abbrev S12288x32x1 : Shape := ⟨3, ![12288, 32, 1]⟩
abbrev S1x1x128 : Shape := ⟨3, ![1, 1, 128]⟩
abbrev S12288x16 : Shape := ⟨2, ![12288, 16]⟩
abbrev S12288x16x1 : Shape := ⟨3, ![12288, 16, 1]⟩

abbrev nBuf : Space → Nat
  | .hbm => 8
  | .vmem => 8
  | .smem => 0
  | _ => 0

abbrev bufTy : (tb : Table) → Fin (tcTables nBuf tb) → BufTy
  | .hbm, ⟨0, _⟩ => ⟨S12288x5376, .bf16⟩
  | .hbm, ⟨1, _⟩ => ⟨S5376x8192, .fp8e4m3⟩
  | .hbm, ⟨2, _⟩ => ⟨S42x64, .f32⟩
  | .hbm, ⟨3, _⟩ => ⟨S128, .f32⟩
  | .hbm, ⟨4, _⟩ => ⟨S128, .f32⟩
  | .hbm, ⟨5, _⟩ => ⟨S12288x4x8x128, .bf16⟩
  | .hbm, ⟨6, _⟩ => ⟨S12288x2x8x128, .bf16⟩
  | .hbm, ⟨7, _⟩ => ⟨S12288x2x8x128, .bf16⟩
  | .local _ .vmem, ⟨0, _⟩ => ⟨S12288x5376, .bf16⟩
  | .local _ .vmem, ⟨1, _⟩ => ⟨S5376x8192, .fp8e4m3⟩
  | .local _ .vmem, ⟨2, _⟩ => ⟨S42x64, .f32⟩
  | .local _ .vmem, ⟨3, _⟩ => ⟨S128, .f32⟩
  | .local _ .vmem, ⟨4, _⟩ => ⟨S128, .f32⟩
  | .local _ .vmem, ⟨5, _⟩ => ⟨S12288x4x8x128, .bf16⟩
  | .local _ .vmem, ⟨6, _⟩ => ⟨S12288x2x8x128, .bf16⟩
  | .local _ .vmem, ⟨7, _⟩ => ⟨S12288x2x8x128, .bf16⟩
  | _, _ => ⟨S12288x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12288x5376 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5376x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S42x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x4x8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x2x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x2x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Quant.lean ====
abbrev S12288x5376 : Shape := ⟨2, ![12288, 5376]⟩
abbrev S5376 : Shape := ⟨1, ![5376]⟩
abbrev S1x5376 : Shape := ⟨2, ![1, 5376]⟩
abbrev S12288x42 : Shape := ⟨2, ![12288, 42]⟩
abbrev S256x5376 : Shape := ⟨2, ![256, 5376]⟩
abbrev S256x42 : Shape := ⟨2, ![256, 42]⟩
abbrev S256 : Shape := ⟨1, ![256]⟩
abbrev S256x1 : Shape := ⟨2, ![256, 1]⟩
abbrev S256x128 : Shape := ⟨2, ![256, 128]⟩
abbrev S1x128 : Shape := ⟨2, ![1, 128]⟩
abbrev S1x252 : Shape := ⟨2, ![1, 252]⟩
abbrev S256x252 : Shape := ⟨2, ![256, 252]⟩

abbrev nBuf : Space → Nat
  | .hbm => 6
  | .vmem => 9
  | .smem => 0
  | _ => 0

abbrev bufTy : (tb : Table) → Fin (tcTables nBuf tb) → BufTy
  | .hbm, ⟨0, _⟩ => ⟨S12288x5376, .bf16⟩
  | .hbm, ⟨1, _⟩ => ⟨S5376, .f32⟩
  | .hbm, ⟨2, _⟩ => ⟨S1x5376, .f32⟩
  | .hbm, ⟨3, _⟩ => ⟨S12288x5376, .fp8e4m3⟩
  | .hbm, ⟨4, _⟩ => ⟨S12288x42, .f32⟩
  | .hbm, ⟨5, _⟩ => ⟨S12288x5376, .bf16⟩
  | .local _ .vmem, ⟨0, _⟩ => ⟨S256x5376, .bf16⟩
  | .local _ .vmem, ⟨1, _⟩ => ⟨S256x5376, .bf16⟩
  | .local _ .vmem, ⟨2, _⟩ => ⟨S1x5376, .f32⟩
  | .local _ .vmem, ⟨3, _⟩ => ⟨S256x5376, .fp8e4m3⟩
  | .local _ .vmem, ⟨4, _⟩ => ⟨S256x5376, .fp8e4m3⟩
  | .local _ .vmem, ⟨5, _⟩ => ⟨S256x42, .f32⟩
  | .local _ .vmem, ⟨6, _⟩ => ⟨S256x42, .f32⟩
  | .local _ .vmem, ⟨7, _⟩ => ⟨S256x5376, .bf16⟩
  | .local _ .vmem, ⟨8, _⟩ => ⟨S256x5376, .bf16⟩
  | _, _ => ⟨S12288x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5376 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x42 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5376 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantReferenceIdeal.lean ====
abbrev S12288x5376 : Shape := ⟨2, ![12288, 5376]⟩
abbrev S5376 : Shape := ⟨1, ![5376]⟩
abbrev S12288x42 : Shape := ⟨2, ![12288, 42]⟩
abbrev S12288 : Shape := ⟨1, ![12288]⟩
abbrev S12288x1 : Shape := ⟨2, ![12288, 1]⟩
abbrev S1x5376 : Shape := ⟨2, ![1, 5376]⟩
abbrev S12288x42x128 : Shape := ⟨3, ![12288, 42, 128]⟩
abbrev S1x1x252 : Shape := ⟨3, ![1, 1, 252]⟩
abbrev S12288x42x1 : Shape := ⟨3, ![12288, 42, 1]⟩
abbrev S12288x42x252 : Shape := ⟨3, ![12288, 42, 252]⟩

abbrev nBuf : Space → Nat
  | .hbm => 5
  | .vmem => 5
  | .smem => 0
  | _ => 0

abbrev bufTy : (tb : Table) → Fin (tcTables nBuf tb) → BufTy
  | .hbm, ⟨0, _⟩ => ⟨S12288x5376, .bf16⟩
  | .hbm, ⟨1, _⟩ => ⟨S5376, .f32⟩
  | .hbm, ⟨2, _⟩ => ⟨S12288x5376, .fp8e4m3⟩
  | .hbm, ⟨3, _⟩ => ⟨S12288x42, .f32⟩
  | .hbm, ⟨4, _⟩ => ⟨S12288x5376, .bf16⟩
  | .local _ .vmem, ⟨0, _⟩ => ⟨S12288x5376, .bf16⟩
  | .local _ .vmem, ⟨1, _⟩ => ⟨S5376, .f32⟩
  | .local _ .vmem, ⟨2, _⟩ => ⟨S12288x5376, .fp8e4m3⟩
  | .local _ .vmem, ⟨3, _⟩ => ⟨S12288x42, .f32⟩
  | .local _ .vmem, ⟨4, _⟩ => ⟨S12288x5376, .bf16⟩
  | _, _ => ⟨S12288x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12288x5376 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x42 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelFrame.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! The frame of the kernel as printed at the bit instance: it runs, its arguments end unchanged, every counter ends at
    zero. Nothing is said of what it leaves in its three outputs, so those windows (5, 6, 7) are owned at some contents
    before and after each point. -/

/-! ## @main up to the region -/

/-- The buffers of core `c` when the pipeline starts: after the two reshapes of the norm weights. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the pipeline: the reshapes, then the pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- The block of window `w` at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, whether or not it was fetched there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, whether or not it was fetched there. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, whether or not it was fetched there. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, whether or not it was fetched there. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, whether or not it was fetched there. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with the input arrays as found and every other buffer as it was: the arguments end unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The point is one of a block of query heads. -/
abbrev cond0_0 (i : grid0.Coords) : Prop := k0_cond1 i = 1#1
/-- Where that case is met. -/
theorem hcond0_0 : ∀ t : Fin cfg0.N, cond0_0 (grid0.coords t) ↔ t.val % 8 ≤ 3 :=
  (by decide +kernel : ∀ t : Fin grid0.N, cond0_0 (grid0.coords t) ↔ t.val % 8 ≤ 3)

/-- The point is one of a block of key heads. -/
abbrev cond0_1 (i : grid0.Coords) : Prop := k0_cond2 i = 1#1
/-- Where that case is met. -/
theorem hcond0_1 : ∀ t : Fin cfg0.N, cond0_1 (grid0.coords t) ↔ (4 ≤ t.val % 8 ∧ t.val % 8 ≤ 5) :=
  (by decide +kernel : ∀ t : Fin grid0.N, cond0_1 (grid0.coords t) ↔ (4 ≤ t.val % 8 ∧ t.val % 8 ≤ 5))

/-- The point is one of a block of value heads. -/
abbrev cond0_2 (i : grid0.Coords) : Prop := k0_cond3 i = 1#1
/-- Where that case is met. -/
theorem hcond0_2 : ∀ t : Fin cfg0.N, cond0_2 (grid0.coords t) ↔ 6 ≤ t.val % 8 :=
  (by decide +kernel : ∀ t : Fin grid0.N, cond0_2 (grid0.coords t) ↔ 6 ≤ t.val % 8)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The body in its three cases -/

/-- Each window's current staging memref at point `t`, spelled as the pipeline passes it (`bodyAt0`), and its wholeness. -/
abbrev ms0_0 (t : Fin cfg0.N) : Memref sig .tc .vmem S512x5376 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5376x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S42x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1x8x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1x8x128 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S5376x1024 .bf16 := Memref.whole cc0_scratch0

/-- The pipeline's invariant: the scratch is owned at some contents, and so is the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 11852000 in
/-- The body at a block of query heads: the inputs are left as they were, the outputs and the scratch at some contents. -/
theorem kernelRun0_A (c : Dev nD) (i : grid0.Coords) (arg2 : Memref sig .tc .vmem S512x5376 .bf16) (harg2 : arg2.IsWhole) (arg3 : Memref sig .tc .vmem S5376x1024 .fp8e4m3) (harg3 : arg3.IsWhole) (arg4 : Memref sig .tc .smem S42x64 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x1x8x128 .bf16) (harg7 : arg7.IsWhole) (arg8 : Memref sig .tc .vmem S512x1x8x128 .bf16) (harg8 : arg8.IsWhole) (arg9 : Memref sig .tc .vmem S512x1x8x128 .bf16) (harg9 : arg9.IsWhole) (arg10 : Memref sig .tc .vmem S5376x1024 .bf16) (harg10 : arg10.IsWhole) (hc0 : cond0_0 i) (hc1 : ¬cond0_1 i) (hc2 : ¬cond0_2 i)
    (x0 : Vec F S512x5376 .bf16) (x1 : Vec F S5376x1024 .fp8e4m3) (x2 : Vec F S42x64 .f32) (x3 : Vec F S1x128 .f32) (x4 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K := by
    intro E K
    simp only [cc0_proj_eq_skeleton]; unfold cc0_proj_skel
    simp only [k0_part117_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part118_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

set_option maxHeartbeats 11852000 in
/-- The body at a block of key heads: the inputs are left as they were, the outputs and the scratch at some contents. -/
theorem kernelRun0_B (c : Dev nD) (i : grid0.Coords) (arg2 : Memref sig .tc .vmem S512x5376 .bf16) (harg2 : arg2.IsWhole) (arg3 : Memref sig .tc .vmem S5376x1024 .fp8e4m3) (harg3 : arg3.IsWhole) (arg4 : Memref sig .tc .smem S42x64 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x1x8x128 .bf16) (harg7 : arg7.IsWhole) (arg8 : Memref sig .tc .vmem S512x1x8x128 .bf16) (harg8 : arg8.IsWhole) (arg9 : Memref sig .tc .vmem S512x1x8x128 .bf16) (harg9 : arg9.IsWhole) (arg10 : Memref sig .tc .vmem S5376x1024 .bf16) (harg10 : arg10.IsWhole) (hc0 : ¬cond0_0 i) (hc1 : cond0_1 i) (hc2 : ¬cond0_2 i)
    (x0 : Vec F S512x5376 .bf16) (x1 : Vec F S5376x1024 .fp8e4m3) (x2 : Vec F S42x64 .f32) (x3 : Vec F S1x128 .f32) (x4 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K := by
    intro E K
    simp only [cc0_proj_eq_skeleton]; unfold cc0_proj_skel
    simp only [k0_part117_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part118_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

set_option maxHeartbeats 11800000 in
/-- The body at a block of value heads: the inputs are left as they were, the outputs and the scratch at some contents. -/
theorem kernelRun0_C (c : Dev nD) (i : grid0.Coords) (arg2 : Memref sig .tc .vmem S512x5376 .bf16) (harg2 : arg2.IsWhole) (arg3 : Memref sig .tc .vmem S5376x1024 .fp8e4m3) (harg3 : arg3.IsWhole) (arg4 : Memref sig .tc .smem S42x64 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x1x8x128 .bf16) (harg7 : arg7.IsWhole) (arg8 : Memref sig .tc .vmem S512x1x8x128 .bf16) (harg8 : arg8.IsWhole) (arg9 : Memref sig .tc .vmem S512x1x8x128 .bf16) (harg9 : arg9.IsWhole) (arg10 : Memref sig .tc .vmem S5376x1024 .bf16) (harg10 : arg10.IsWhole) (hc0 : ¬cond0_0 i) (hc1 : ¬cond0_1 i) (hc2 : cond0_2 i)
    (x0 : Vec F S512x5376 .bf16) (x1 : Vec F S5376x1024 .fp8e4m3) (x2 : Vec F S42x64 .f32) (x3 : Vec F S1x128 .f32) (x4 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K := by
    intro E K
    simp only [cc0_proj_eq_skeleton]; unfold cc0_proj_skel
    simp only [k0_part117_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part118_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

/-! ## The pipeline's proof data -/

/-- The output windows, of whose contents nothing is said. -/
def forgets0 : Fin 8 → Bool := fun w => w.val == 5 || w.val == 6 || w.val == 7

/-- The proof data on core `c`: each input's buffer holds its block after every point; nothing is said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The arrays of the proof data are those the pipeline finds. -/
theorem A_eq (c : Dev nD) (w : Fin cfg0.W) : (dats m 0 c).A w = V m c (Pipeline.arrRef spec0 w) := by
  dsimp only [dats]

/-- What the body leaves in each input's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 2400000 in
/-- The body at any point: the point's case decides which of the three runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 192 := lt_of_lt_of_eq t.isLt (show cfg0.N = 192 from N_0)
  by_cases h0 : t.val % 8 ≤ 3
  · by_cases h1 : (4 ≤ t.val % 8 ∧ t.val % 8 ≤ 5)
    · exfalso; omega
    · by_cases h2 : 6 ≤ t.val % 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, H5, H6, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
  · by_cases h1 : (4 ≤ t.val % 8 ∧ t.val % 8 ≤ 5)
    · by_cases h2 : 6 ≤ t.val % 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, H5, H6, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · by_cases h2 : 6 ≤ t.val % 8
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, H5, H6, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: the input arrays end as found, every other buffer as it was, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame claim: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Tile.lean ====
module

public import proofs.«01_k».proof.Proof.Gen.KernelIdeal.Frame
public import proofs.«01_k».proof.Proof.Gen.KernelIdeal.Skeleton
public import Idealize.ShloMosaic.Lib.ValueIdx
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The dequantised weight block: at (row, column) the weight times the scale of its group of 128 rows and its group
    of 128 columns, the scale's column counted from the block's first, `8 * i 1`. -/
def Wb (i : grid0.Coords) (x1 : Vec F S5376x1024 .fp8e4m3) (x2 : Vec F S42x64 .f32) : Vec F S5376x1024 .bf16 :=
  mulf (s := S5376x1024) (extf .bf16 x1 bitsLt_fp8e4m3_bf16)
    (truncf .bf16 (fun j : S5376x1024.Idx => x2 (ValueIdx.ix2 ⟨(j 0).val / 128, by have := (j 0).isLt; show _ < 42; change _ < 5376 at this; omega⟩
      ⟨8 * (i 1).val + (j 1).val / 128, by have := (j 1).isLt; have h := (i 1).isLt; show _ < 64; change _ < 1024 at this; change _ < 8 at h; omega⟩)) bitsLt_bf16_f32)

/-- One tile of the dequantised block: the payload the body stores at row tile `g` and column tile `c` — the 128 × 128
    weights there times the one scale read at `(g, 8 * i 1 + c)` — is `Wb` on that tile. -/
theorem tile_mul (i : grid0.Coords) (arg3 : Memref sig .tc .vmem S5376x1024 .fp8e4m3) (harg3 : arg3.IsWhole)
    (arg4 : Memref sig .tc .smem S42x64 .f32) (harg4 : arg4.IsWhole) (x1 : Vec F S5376x1024 .fp8e4m3) (x2 : Vec F S42x64 .f32)
    {g c p q : ℕ} {o : Fin 2 → ℕ} (ho : o = ![g, 8 * (i 1).val + c]) (hp : p = 128 * g) (hq : q = 128 * c) (hc : c < 8)
    (ino : ∀ a, o a + S1x1.size a ≤ S42x64.size a) (inb : ∀ a, (![p, q] : Fin 2 → ℕ) a + S128x128.size a ≤ S5376x1024.size a)
    (pos : 0 < (Rect.unit (s := S42x64) o S1x1.size ino).shape.numel) (x : S128x128.Idx) :
    mulf (s := S128x128) (extf .bf16 (View.readAt (Elt F) arg3.view (Rect.unit (s := S5376x1024) ![p, q] S128x128.size inb).toLoadRect (harg3.unread x1)) bitsLt_fp8e4m3_bf16)
        (truncf .bf16 (broadcast S128x128 (View.readAt (Elt F) arg4.view (Rect.unit (s := S42x64) o S1x1.size ino).toLoadRect (harg4.unread x2) (Shape.Idx.first pos))) bitsLt_bf16_f32) x
      = Wb i x1 x2 ((Rect.unit (s := S5376x1024) ![p, q] S128x128.size inb).emb x) := by
  subst ho hp hq
  have h0 : (x 0).val < 128 := (x 0).isLt
  have h1 : (x 1).val < 128 := (x 1).isLt
  have e3 : ∀ j : S128x128.Idx, View.readAt (Elt F) arg3.view (Rect.unit (s := S5376x1024) ![128 * g, 128 * c] S128x128.size inb).toLoadRect (harg3.unread x1) j
      = x1 ((Rect.unit (s := S5376x1024) ![128 * g, 128 * c] S128x128.size inb).emb j) := fun j => by
    rw [View.readAt_apply, harg3.read_unread]; rfl
  have e4 : View.readAt (Elt F) arg4.view (Rect.unit (s := S42x64) ![g, 8 * (i 1).val + c] S1x1.size ino).toLoadRect (harg4.unread x2) (Shape.Idx.first pos)
      = x2 (ValueIdx.ix2 ⟨g, by have := ino 0; simpa using this⟩ ⟨8 * (i 1).val + c, by have := ino 1; simpa using this⟩) := by
    rw [View.readAt_apply, harg4.read_unread]
    refine congrArg x2 (funext fun a => ?_)
    fin_cases a <;> rfl
  have e5 : broadcast S128x128 (View.readAt (Elt F) arg4.view (Rect.unit (s := S42x64) ![g, 8 * (i 1).val + c] S1x1.size ino).toLoadRect (harg4.unread x2) (Shape.Idx.first pos))
      = fun j : S128x128.Idx => (fun j : S5376x1024.Idx => x2 (ValueIdx.ix2 ⟨(j 0).val / 128, by have := (j 0).isLt; show _ < 42; change _ < 5376 at this; omega⟩
      ⟨8 * (i 1).val + (j 1).val / 128, by have := (j 1).isLt; have h := (i 1).isLt; show _ < 64; change _ < 1024 at this; change _ < 8 at h; omega⟩)) ((Rect.unit (s := S5376x1024) ![128 * g, 128 * c] S128x128.size inb).emb j) := by
    funext j
    have h0 : (j 0).val < 128 := (j 0).isLt
    have h1 : (j 1).val < 128 := (j 1).isLt
    rw [e4]
    refine congrArg x2 (funext fun a => ?_)
    fin_cases a
    · refine Fin.ext ?_
      show g = (128 * g + 1 * (j 0).val) / 128
      omega
    · refine Fin.ext ?_
      show 8 * (i 1).val + c = 8 * (i 1).val + (128 * c + 1 * (j 1).val) / 128
      omega
  rw [e5, funext e3]
  rfl

theorem tile_cast (i : grid0.Coords) (arg3 : Memref sig .tc .vmem S5376x1024 .fp8e4m3) (harg3 : arg3.IsWhole)
    (arg4 : Memref sig .tc .smem S42x64 .f32) (harg4 : arg4.IsWhole) (x1 : Vec F S5376x1024 .fp8e4m3) (x2 : Vec F S42x64 .f32)
    {g c p q : ℕ} {o : Fin 2 → ℕ} (ho : o = ![g, 8 * (i 1).val + c]) (hp : p = 128 * g) (hq : q = 128 * c) (hc : c < 8)
    (ino : ∀ a, o a + S1x1.size a ≤ S42x64.size a) (inb : ∀ a, (![p, q] : Fin 2 → ℕ) a + S128x128.size a ≤ S5376x1024.size a)
    (pos : 0 < (Rect.unit (s := S42x64) o S1x1.size ino).shape.numel) (x : S128x128.Idx) :
    shapeCast S128x128 (mulf (s := S128x128) (extf .bf16 (View.readAt (Elt F) arg3.view (Rect.unit (s := S5376x1024) ![p, q] S128x128.size inb).toLoadRect (harg3.unread x1)) bitsLt_fp8e4m3_bf16)
        (truncf .bf16 (broadcast S128x128 (View.readAt (Elt F) arg4.view (Rect.unit (s := S42x64) o S1x1.size ino).toLoadRect (harg4.unread x2) (Shape.Idx.first pos))) bitsLt_bf16_f32)) shapeCasts_S128x128_S128x128 x
      = Wb i x1 x2 ((Rect.unit (s := S5376x1024) ![p, q] S128x128.size inb).emb x) := by
  rw [shapeCast_self]
  exact tile_mul i arg3 harg3 arg4 harg4 x1 x2 ho hp hq hc ino inb pos x

end Cert.KernelIdeal.Hand

end
-- ==== Proof.Prefix.lean ====
module

public import proofs.«01_k».proof.Proof.Gen.KernelIdeal.Frame
public import proofs.«01_k».proof.Proof.Gen.KernelIdeal.Skeleton
public import proofs.«01_k».proof.Proof.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 11852000 in
/-- The part of the body that every case runs first: the 336 tiles of the dequantised weights are stored into the
    scratch block, and then the activations and that block are read whole. What it hands on is the activations' block
    and `Wb`. -/
theorem fill_weights (c : Dev nD) (i : grid0.Coords) (arg2 : Memref sig .tc .vmem S512x5376 .bf16) (harg2 : arg2.IsWhole) (arg3 : Memref sig .tc .vmem S5376x1024 .fp8e4m3) (harg3 : arg3.IsWhole) (arg4 : Memref sig .tc .smem S42x64 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x1x8x128 .bf16) (harg7 : arg7.IsWhole) (arg8 : Memref sig .tc .vmem S512x1x8x128 .bf16) (harg8 : arg8.IsWhole) (arg9 : Memref sig .tc .vmem S512x1x8x128 .bf16) (harg9 : arg9.IsWhole) (arg10 : Memref sig .tc .vmem S5376x1024 .bf16) (harg10 : arg10.IsWhole)
    (x0 : Vec F S512x5376 .bf16) (x1 : Vec F S5376x1024 .fp8e4m3) (x2 : Vec F S42x64 .f32) :
      ∀ (E : Set ℕ) (K : (Σ' (v4032 : Vec F S512x5376 .bf16), Vec F S5376x1024 .bf16) → sProp 𝕄),
        iprop(owns (c : Thread nD τ) arg2 fullShare x0 ∗ owns (c : Thread nD τ) arg3 fullShare x1 ∗ owns (c : Thread nD τ) arg4 fullShare x2 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ d, owns (c : Thread nD τ) arg10 fullShare d)) -∗ K ⟨x0, Wb i x1 x2⟩))
          ⊢ wp frame (wpE (defs₀ (F := F)) Variants.none c none) E (do
              let ⟨arg1, v2156⟩ ← k0_part117 i arg2 harg2 arg3 harg3 arg4 harg4 arg5 harg5 arg6 harg6 arg7 harg7 arg8 harg8 arg9 harg9 arg10 harg10
              k0_part118 i arg2 harg2 arg3 harg3 arg4 harg4 arg5 harg5 arg6 harg6 arg7 harg7 arg8 harg8 arg9 harg9 arg10 harg10 arg1 v2156) K := by
    intro E K
    simp only [k0_part117_eq_skeleton, k0_part118_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec
    sl_step
    have hv : fill_weights.sl.v4033 c i arg3 harg3 arg4 harg4 arg10 x1 x2 = Wb i x1 x2 := by
      delta fill_weights.sl.v4033
      have hG : ∀ p ∈ fill_weights.sl.HS0_336 c i arg3 harg3 arg4 harg4 x1 x2, ∀ x, p.2 x = Wb i x1 x2 (p.1.emb x) := by
        refine List.forall_mem_cons.2 ⟨tile_cast i arg3 harg3 arg4 harg4 x1 x2 (k0_off42_eq i 7) (g := 41) (c := 7) rfl rfl (by decide) _ _ _, ?_⟩
        refine List.forall_mem_cons.2 ⟨tile_cast i arg3 harg3 arg4 harg4 x1 x2 (k0_off42_eq i 6) (g := 41) (c := 6) rfl rfl (by decide) _ _ _, ?_⟩
        refine List.forall_mem_cons.2 ⟨tile_cast i arg3 harg3 arg4 harg4 x1 x2 (k0_off42_eq i 5) (g := 41) (c := 5) rfl rfl (by decide) _ _ _, ?_⟩
        refine List.forall_mem_cons.2 ⟨tile_cast i arg3 harg3 arg4 harg4 x1 x2 (k0_off42_eq i 4) (g := 41) (c := 4) rfl rfl (by decide) _ _ _, ?_⟩
        refine List.forall_mem_cons.2 ⟨tile_cast i arg3 harg3 arg4 harg4 x1 x2 (k0_off42_eq i 3) (g := 41) (c := 3) rfl rfl (by decide) _ _ _, ?_⟩
        refine List.forall_mem_cons.2 ⟨tile_cast i arg3 harg3 arg4 harg4 x1 x2 (k0_off42_eq i 2) (g := 41) (c := 2) rfl rfl (by decide) _ _ _, ?_⟩
        refine List.forall_mem_cons.2 ⟨tile_cast i arg3 harg3 arg4 harg4 x1 x2 (k0_off42_eq i 1) (g := 41) (c := 1) rfl rfl (by decide) _ _ _, ?_⟩
        refine List.forall_mem_cons.2 ⟨tile_cast i arg3 harg3 arg4 harg4 x1 x2 (k0_off42_eq i 0) (g := 41) (c := 0) rfl rfl (by decide) _ _ _, ?_⟩
        refine List.forall_mem_cons.2 ⟨tile_cast i arg3 harg3 arg4 harg4 x1 x2 (k0_off41_eq i 7) (g := 40) (c := 7) rfl rfl (by decide) _ _ _, ?_⟩
        refine List.forall_mem_cons.2 ⟨tile_cast i arg3 harg3 arg4 harg4 x1 x2 (k0_off41_eq i 6) (g := 40) (c := 6) rfl rfl (by decide) _ _ _, ?_⟩
        refine List.forall_mem_cons.2 ⟨tile_cast i arg3 harg3 arg4 harg4 x1 x2 (k0_off41_eq i 5) (g := 40) (c := 5) rfl rfl (by decide) _ _ _, ?_⟩
        refine List.forall_mem_cons.2 ⟨tile_cast i arg3 harg3 arg4 harg4 x1 x2 (k0_off41_eq i 4) (g := 40) (c := 4) rfl rfl (by decide) _ _ _, ?_⟩
        refine List.forall_mem_cons.2 ⟨tile_cast i arg3 harg3 arg4 harg4 x1 x2 (k0_off41_eq i 3) (g := 40) (c := 3) rfl rfl (by decide) _ _ _, ?_⟩
        refine List.forall_mem_cons.2 ⟨tile_cast i arg3 harg3 arg4 harg4 x1 x2 (k0_off41_eq i 2) (g := 40) (c := 2) rfl rfl (by decide) _ _ _, ?_⟩
        refine List.forall_mem_cons.2 ⟨tile_cast i arg3 harg3 arg4 harg4 x1 x2 (k0_off41_eq i 1) (g := 40) (c := 1) rfl rfl (by decide) _ _ _, ?_⟩
        refine List.forall_mem_cons.2 ⟨tile_cast i arg3 harg3 arg4 harg4 x1 x2 (k0_off41_eq i 0) (g := 40) (c := 0) rfl rfl (by decide) _ _ _, ?_⟩
        refine List.forall_mem_cons.2 ⟨tile_cast i arg3 harg3 arg4 harg4 x1 x2 (k0_off40_eq i 7) (g := 39) (c := 7) rfl rfl (by decide) _ _ _, ?_⟩
        refine List.forall_mem_cons.2 ⟨tile_cast i arg3 harg3 arg4 harg4 x1 x2 (k0_off40_eq i 6) (g := 39) (c := 6) rfl rfl (by decide) _ _ _, ?_⟩
        refine List.forall_mem_cons.2 ⟨tile_cast i arg3 harg3 arg4 harg4 x1 x2 (k0_off40_eq i 5) (g := 39) (c := 5) rfl rfl (by decide) _ _ _, ?_⟩
        refine List.forall_mem_cons.2 ⟨tile_cast i arg3 harg3 arg4 harg4 x1 x2 (k0_off40_eq i 4) (g := 39) (c := 4) rfl rfl (by decide) _ _ _, ?_⟩
        refine List.forall_mem_cons.2 ⟨tile_cast i arg3 harg3 arg4 harg4 x1 x2 (k0_off40_eq i 3) (g := 39) (c := 3) rfl rfl (by decide) _ _ _, ?_⟩
        refine List.forall_mem_cons.2 ⟨tile_cast i arg3 harg3 arg4 harg4 x1 x2 (k0_off40_eq i 2) (g := 39) (c := 2) rfl rfl (by decide) _ _ _, ?_⟩
        refine List.forall_mem_cons.2 ⟨tile_cast i arg3 harg3 arg4 harg4 x1 x2 (k0_off40_eq i 1) (g := 39) (c := 1) rfl rfl (by decide) _ _ _, ?_⟩
        refine List.forall_mem_cons.2 ⟨tile_cast i arg3 harg3 arg4 harg4 x1 x2 (k0_off40_eq i 0) (g := 39) (c := 0) rfl rfl (by decide) _ _ _, ?_⟩
        refine List.forall_mem_cons.2 ⟨tile_cast i arg3 harg3 arg4 harg4 x1 x2 (k0_off39_eq i 7) (g := 38) (c := 7) rfl rfl (by decide) _ _ _, ?_⟩
        refine List.forall_mem_cons.2 ⟨tile_cast i arg3 harg3 arg4 harg4 x1 x2 (k0_off39_eq i 6) (g := 38) (c := 6) rfl rfl (by decide) _ _ _, ?_⟩
        refine List.forall_mem_cons.2 ⟨tile_cast i arg3 harg3 arg4 harg4 x1 x2 (k0_off39_eq i 5) (g := 38) (c := 5) rfl rfl (by decide) _ _ _, ?_⟩
        refine List.forall_mem_cons.2 ⟨tile_cast i arg3 harg3 arg4 harg4 x1 x2 (k0_off39_eq i 4) (g := 38) (c := 4) rfl rfl (by decide) _ _ _, ?_⟩
        refine List.forall_mem_cons.2 ⟨tile_cast i arg3 harg3 arg4 harg4 x1 x2 (k0_off39_eq i 3) (g := 38) (c := 3) rfl rfl (by decide) _ _ _, ?_⟩
        refine List.forall_mem_cons.2 ⟨tile_cast i arg3 harg3 arg4 harg4 x1 x2 (k0_off39_eq i 2) (g := 38) (c := 2) rfl rfl (by decide) _ _ _, ?_⟩
        refine List.forall_mem_cons.2 ⟨tile_cast i arg3 harg3 arg4 harg4 x1 x2 (k0_off39_eq i 1) (g := 38) (c := 1) rfl rfl (by decide) _ _ _, ?_⟩
        refine List.forall_mem_cons.2 ⟨tile_cast i arg3 harg3 arg4 harg4 x1 x2 (k0_off39_eq i 0) (g := 38) (c := 0) rfl rfl (by decide) _ _ _, ?_⟩
        refine List.forall_mem_cons.2 ⟨tile_cast i arg3 harg3 arg4 harg4 x1 x2 (k0_off38_eq i 7) (g := 37) (c := 7) rfl rfl (by decide) _ _ _, ?_⟩
        refine List.forall_mem_cons.2 ⟨tile_cast i arg3 harg3 arg4 harg4 x1 x2 (k0_off38_eq i 6) (g := 37) (c := 6) rfl rfl (by decide) _ _ _, ?_⟩
        refine List.forall_mem_cons.2 ⟨tile_cast i arg3 harg3 arg4 harg4 x1 x2 (k0_off38_eq i 5) (g := 37) (c := 5) rfl rfl (by decide) _ _ _, ?_⟩
        refine List.forall_mem_cons.2 ⟨tile_cast i arg3 harg3 arg4 harg4 x1 x2 (k0_off38_eq i 4) (g := 37) (c := 4) rfl rfl (by decide) _ _ _, ?_⟩
        refine List.forall_mem_cons.2 ⟨tile_cast i arg3 harg3 arg4 harg4 x1 x2 (k0_off38_eq i 3) (g := 37) (c := 3) rfl rfl (by decide) _ _ _, ?_⟩
        refine List.forall_mem_cons.2 ⟨tile_cast i arg3 harg3 arg4 harg4 x1 x2 (k0_off38_eq i 2) (g := 37) (c := 2) rfl rfl (by decide) _ _ _, ?_⟩
        refine List.forall_mem_cons.2 ⟨tile_cast i arg3 harg3 arg4 harg4 x1 x2 (k0_off38_eq i 1) (g := 37) (c := 1) rfl rfl (by decide) _ _ _, ?_⟩
        refine List.forall_mem_cons.2 ⟨tile_cast i arg3 harg3 arg4 harg4 x1 x2 (k0_off38_eq i 0) (g := 37) (c := 0) rfl rfl (by decide) _ _ _, ?_⟩
        refine List.forall_mem_cons.2 ⟨tile_cast i arg3 harg3 arg4 harg4 x1 x2 (k0_off37_eq i 7) (g := 36) (c := 7) rfl rfl (by decide) _ _ _, ?_⟩
        refine List.forall_mem_cons.2 ⟨tile_cast i arg3 harg3 arg4 harg4 x1 x2 (k0_off37_eq i 6) (g := 36) (c := 6) rfl rfl (by decide) _ _ _, ?_⟩
        refine List.forall_mem_cons.2 ⟨tile_cast i arg3 harg3 arg4 harg4 x1 x2 (k0_off37_eq i 5) (g := 36) (c := 5) rfl rfl (by decide) _ _ _, ?_⟩
        refine List.forall_mem_cons.2 ⟨tile_cast i arg3 harg3 arg4 harg4 x1 x2 (k0_off37_eq i 4) (g := 36) (c := 4) rfl rfl (by decide) _ _ _, ?_⟩
        refine List.forall_mem_cons.2 ⟨tile_cast i arg3 harg3 arg4 harg4 x1 x2 (k0_off37_eq i 3) (g := 36) (c := 3) rfl rfl (by decide) _ _ _, ?_⟩
        refine List.forall_mem_cons.2 ⟨tile_cast i arg3 harg3 arg4 harg4 x1 x2 (k0_off37_eq i 2) (g := 36) (c := 2) rfl rfl (by decide) _ _ _, ?_⟩
        refine List.forall_mem_cons.2 ⟨tile_cast i arg3 harg3 arg4 harg4 x1 x2 (k0_off37_eq i 1) (g := 36) (c := 1) rfl rfl (by decide) _ _ _, ?_⟩
        refine List.forall_mem_cons.2 ⟨tile_cast i arg3 harg3 arg4 harg4 x1 x2 (k0_off37_eq i 0) (g := 36) (c := 0) rfl rfl (by decide) _ _ _, ?_⟩
        refine List.forall_mem_cons.2 ⟨tile_cast i arg3 harg3 arg4 harg4 x1 x2 (k0_off36_eq i 7) (g := 35) (c := 7) rfl rfl (by decide) _ _ _, ?_⟩
        refine List.forall_mem_cons.2 ⟨tile_cast i arg3 harg3 arg4 harg4 x1 x2 (k0_off36_eq i 6) (g := 35) (c := 6) rfl rfl (by decide) _ _ _, ?_⟩
        refine List.forall_mem_cons.2 ⟨tile_cast i arg3 harg3 arg4 harg4 x1 x2 (k0_off36_eq i 5) (g := 35) (c := 5) rfl rfl (by decide) _ _ _, ?_⟩
        refine List.forall_mem_cons.2 ⟨tile_cast i arg3 harg3 arg4 harg4 x1 x2 (k0_off36_eq i 4) (g := 35) (c := 4) rfl rfl (by decide) _ _ _, ?_⟩
        refine List.forall_mem_cons.2 ⟨tile_cast i arg3 harg3 arg4 harg4 x1 x2 (k0_off36_eq i 3) (g := 35) (c := 3) rfl rfl (by decide) _ _ _, ?_⟩
        refine List.forall_mem_cons.2 ⟨tile_cast i arg3 harg3 arg4 harg4 x1 x2 (k0_off36_eq i 2) (g := 35) (c := 2) rfl rfl (by decide) _ _ _, ?_⟩
        refine List.forall_mem_cons.2 ⟨tile_cast i arg3 harg3 arg4 harg4 x1 x2 (k0_off36_eq i 1) (g := 35) (c := 1) rfl rfl (by decide) _ _ _, ?_⟩
        refine List.forall_mem_cons.2 ⟨tile_cast i arg3 harg3 arg4 harg4 x1 x2 (k0_off36_eq i 0) (g := 35) (c := 0) rfl rfl (by decide) _ _ _, ?_⟩
        refine List.forall_mem_cons.2 ⟨tile_cast i arg3 harg3 arg4 harg4 x1 x2 (k0_off35_eq i 7) (g := 34) (c := 7) rfl rfl (by decide) _ _ _, ?_⟩
        refine List.forall_mem_cons.2 ⟨tile_cast i arg3 harg3 arg4 harg4 x1 x2 (k0_off35_eq i 6) (g := 34) (c := 6) rfl rfl (by decide) _ _ _, ?_⟩
        refine List.forall_mem_cons.2 ⟨tile_cast i arg3 harg3 arg4 harg4 x1 x2 (k0_off35_eq i 5) (g := 34) (c := 5) rfl rfl (by decide) _ _ _, ?_⟩
        refine List.forall_mem_cons.2 ⟨tile_cast i arg3 harg3 arg4 harg4 x1 x2 (k0_off35_eq i 4) (g := 34) (c := 4) rfl rfl (by decide) _ _ _, ?_⟩
        refine List.forall_mem_cons.2 ⟨tile_cast i arg3 harg3 arg4 harg4 x1 x2 (k0_off35_eq i 3) (g := 34) (c := 3) rfl rfl (by decide) _ _ _, ?_⟩
        refine List.forall_mem_cons.2 ⟨tile_cast i arg3 harg3 arg4 harg4 x1 x2 (k0_off35_eq i 2) (g := 34) (c := 2) rfl rfl (by decide) _ _ _, ?_⟩
        refine List.forall_mem_cons.2 ⟨tile_cast i arg3 harg3 arg4 harg4 x1 x2 (k0_off35_eq i 1) (g := 34) (c := 1) rfl rfl (by decide) _ _ _, ?_⟩
        refine List.forall_mem_cons.2 ⟨tile_cast i arg3 harg3 arg4 harg4 x1 x2 (k0_off35_eq i 0) (g := 34) (c := 0) rfl rfl (by decide) _ _ _, ?_⟩
        refine List.forall_mem_cons.2 ⟨tile_cast i arg3 harg3 arg4 harg4 x1 x2 (k0_off34_eq i 7) (g := 33) (c := 7) rfl rfl (by decide) _ _ _, ?_⟩
        refine List.forall_mem_cons.2 ⟨tile_cast i arg3 harg3 arg4 harg4 x1 x2 (k0_off34_eq i 6) (g := 33) (c := 6) rfl rfl (by decide) _ _ _, ?_⟩
        refine List.forall_mem_cons.2 ⟨tile_cast i arg3 harg3 arg4 harg4 x1 x2 (k0_off34_eq i 5) (g := 33) (c := 5) rfl rfl (by decide) _ _ _, ?_⟩
        refine List.forall_mem_cons.2 ⟨tile_cast i arg3 harg3 arg4 harg4 x1 x2 (k0_off34_eq i 4) (g := 33) (c := 4) rfl rfl (by decide) _ _ _, ?_⟩
        refine List.forall_mem_cons.2 ⟨tile_cast i arg3 harg3 arg4 harg4 x1 x2 (k0_off34_eq i 3) (g := 33) (c := 3) rfl rfl (by decide) _ _ _, ?_⟩
        refine List.forall_mem_cons.2 ⟨tile_cast i arg3 harg3 arg4 harg4 x1 x2 (k0_off34_eq i 2) (g := 33) (c := 2) rfl rfl (by decide) _ _ _, ?_⟩
        refine List.forall_mem_cons.2 ⟨tile_cast i arg3 harg3 arg4 harg4 x1 x2 (k0_off34_eq i 1) (g := 33) (c := 1) rfl rfl (by decide) _ _ _, ?_⟩
        refine List.forall_mem_cons.2 ⟨tile_cast i arg3 harg3 arg4 harg4 x1 x2 (k0_off34_eq i 0) (g := 33) (c := 0) rfl rfl (by decide) _ _ _, ?_⟩
        refine List.forall_mem_cons.2 ⟨tile_cast i arg3 harg3 arg4 harg4 x1 x2 (k0_off33_eq i 7) (g := 32) (c := 7) rfl rfl (by decide) _ _ _, ?_⟩
        refine List.forall_mem_cons.2 ⟨tile_cast i arg3 harg3 arg4 harg4 x1 x2 (k0_off33_eq i 6) (g := 32) (c := 6) rfl rfl (by decide) _ _ _, ?_⟩
        refine List.forall_mem_cons.2 ⟨tile_cast i arg3 harg3 arg4 harg4 x1 x2 (k0_off33_eq i 5) (g := 32) (c := 5) rfl rfl (by decide) _ _ _, ?_⟩
        refine List.forall_mem_cons.2 ⟨tile_cast i arg3 harg3 arg4 harg4 x1 x2 (k0_off33_eq i 4) (g := 32) (c := 4) rfl rfl (by decide) _ _ _, ?_⟩
        refine List.forall_mem_cons.2 ⟨tile_cast i arg3 harg3 arg4 harg4 x1 x2 (k0_off33_eq i 3) (g := 32) (c := 3) rfl rfl (by decide) _ _ _, ?_⟩
        refine List.forall_mem_cons.2 ⟨tile_cast i arg3 harg3 arg4 harg4 x1 x2 (k0_off33_eq i 2) (g := 32) (c := 2) rfl rfl (by decide) _ _ _, ?_⟩
        refine List.forall_mem_cons.2 ⟨tile_cast i arg3 harg3 arg4 harg4 x1 x2 (k0_off33_eq i 1) (g := 32) (c := 1) rfl rfl (by decide) _ _ _, ?_⟩
        refine List.forall_mem_cons.2 ⟨tile_cast i arg3 harg3 arg4 harg4 x1 x2 (k0_off33_eq i 0) (g := 32) (c := 0) rfl rfl (by decide) _ _ _, ?_⟩
        refine List.forall_mem_cons.2 ⟨tile_cast i arg3 harg3 arg4 harg4 x1 x2 (k0_off32_eq i 7) (g := 31) (c := 7) rfl rfl (by decide) _ _ _, ?_⟩
        refine List.forall_mem_cons.2 ⟨tile_cast i arg3 harg3 arg4 harg4 x1 x2 (k0_off32_eq i 6) (g := 31) (c := 6) rfl rfl (by decide) _ _ _, ?_⟩
        refine List.forall_mem_cons.2 ⟨tile_cast i arg3 harg3 arg4 harg4 x1 x2 (k0_off32_eq i 5) (g := 31) (c := 5) rfl rfl (by decide) _ _ _, ?_⟩
        refine List.forall_mem_cons.2 ⟨tile_cast i arg3 harg3 arg4 harg4 x1 x2 (k0_off32_eq i 4) (g := 31) (c := 4) rfl rfl (by decide) _ _ _, ?_⟩
        refine List.forall_mem_cons.2 ⟨tile_cast i arg3 harg3 arg4 harg4 x1 x2 (k0_off32_eq i 3) (g := 31) (c := 3) rfl rfl (by decide) _ _ _, ?_⟩
        refine List.forall_mem_cons.2 ⟨tile_cast i arg3 harg3 arg4 harg4 x1 x2 (k0_off32_eq i 2) (g := 31) (c := 2) rfl rfl (by decide) _ _ _, ?_⟩
        refine List.forall_mem_cons.2 ⟨tile_cast i arg3 harg3 arg4 harg4 x1 x2 (k0_off32_eq i 1) (g := 31) (c := 1) rfl rfl (by decide) _ _ _, ?_⟩
        refine List.forall_mem_cons.2 ⟨tile_cast i arg3 harg3 arg4 harg4 x1 x2 (k0_off32_eq i 0) (g := 31) (c := 0) rfl rfl (by decide) _ _ _, ?_⟩
        refine List.forall_mem_cons.2 ⟨tile_cast i arg3 harg3 arg4 harg4 x1 x2 (k0_off31_eq i 7) (g := 30) (c := 7) rfl rfl (by decide) _ _ _, ?_⟩
        refine List.forall_mem_cons.2 ⟨tile_cast i arg3 harg3 arg4 harg4 x1 x2 (k0_off31_eq i 6) (g := 30) (c := 6) rfl rfl (by decide) _ _ _, ?_⟩
        refine List.forall_mem_cons.2 ⟨tile_cast i arg3 harg3 arg4 harg4 x1 x2 (k0_off31_eq i 5) (g := 30) (c := 5) rfl rfl (by decide) _ _ _, ?_⟩
        refine List.forall_mem_cons.2 ⟨tile_cast i arg3 harg3 arg4 harg4 x1 x2 (k0_off31_eq i 4) (g := 30) (c := 4) rfl rfl (by decide) _ _ _, ?_⟩
        refine List.forall_mem_cons.2 ⟨tile_cast i arg3 harg3 arg4 harg4 x1 x2 (k0_off31_eq i 3) (g := 30) (c := 3) rfl rfl (by decide) _ _ _, ?_⟩
        refine List.forall_mem_cons.2 ⟨tile_cast i arg3 harg3 arg4 harg4 x1 x2 (k0_off31_eq i 2) (g := 30) (c := 2) rfl rfl (by decide) _ _ _, ?_⟩
        refine List.forall_mem_cons.2 ⟨tile_cast i arg3 harg3 arg4 harg4 x1 x2 (k0_off31_eq i 1) (g := 30) (c := 1) rfl rfl (by decide) _ _ _, ?_⟩
        refine List.forall_mem_cons.2 ⟨tile_cast i arg3 harg3 arg4 harg4 x1 x2 (k0_off31_eq i 0) (g := 30) (c := 0) rfl rfl (by decide) _ _ _, ?_⟩
        refine List.forall_mem_cons.2 ⟨tile_cast i arg3 harg3 arg4 harg4 x1 x2 (k0_off30_eq i 7) (g := 29) (c := 7) rfl rfl (by decide) _ _ _, ?_⟩
        refine List.forall_mem_cons.2 ⟨tile_cast i arg3 harg3 arg4 harg4 x1 x2 (k0_off30_eq i 6) (g := 29) (c := 6) rfl rfl (by decide) _ _ _, ?_⟩
        refine List.forall_mem_cons.2 ⟨tile_cast i arg3 harg3 arg4 harg4 x1 x2 (k0_off30_eq i 5) (g := 29) (c := 5) rfl rfl (by decide) _ _ _, ?_⟩
        refine List.forall_mem_cons.2 ⟨tile_cast i arg3 harg3 arg4 harg4 x1 x2 (k0_off30_eq i 4) (g := 29) (c := 4) rfl rfl (by decide) _ _ _, ?_⟩
        refine List.forall_mem_cons.2 ⟨tile_cast i arg3 harg3 arg4 harg4 x1 x2 (k0_off30_eq i 3) (g := 29) (c := 3) rfl rfl (by decide) _ _ _, ?_⟩
        refine List.forall_mem_cons.2 ⟨tile_cast i arg3 harg3 arg4 harg4 x1 x2 (k0_off30_eq i 2) (g := 29) (c := 2) rfl rfl (by decide) _ _ _, ?_⟩
        refine List.forall_mem_cons.2 ⟨tile_cast i arg3 harg3 arg4 harg4 x1 x2 (k0_off30_eq i 1) (g := 29) (c := 1) rfl rfl (by decide) _ _ _, ?_⟩
        refine List.forall_mem_cons.2 ⟨tile_cast i arg3 harg3 arg4 harg4 x1 x2 (k0_off30_eq i 0) (g := 29) (c := 0) rfl rfl (by decide) _ _ _, ?_⟩
        refine List.forall_mem_cons.2 ⟨tile_cast i arg3 harg3 arg4 harg4 x1 x2 (k0_off29_eq i 7) (g := 28) (c := 7) rfl rfl (by decide) _ _ _, ?_⟩
        refine List.forall_mem_cons.2 ⟨tile_cast i arg3 harg3 arg4 harg4 x1 x2 (k0_off29_eq i 6) (g := 28) (c := 6) rfl rfl (by decide) _ _ _, ?_⟩
        refine List.forall_mem_cons.2 ⟨tile_cast i arg3 harg3 arg4 harg4 x1 x2 (k0_off29_eq i 5) (g := 28) (c := 5) rfl rfl (by decide) _ _ _, ?_⟩
        refine List.forall_mem_cons.2 ⟨tile_cast i arg3 harg3 arg4 harg4 x1 x2 (k0_off29_eq i 4) (g := 28) (c := 4) rfl rfl (by decide) _ _ _, ?_⟩
        refine List.forall_mem_cons.2 ⟨tile_cast i arg3 harg3 arg4 harg4 x1 x2 (k0_off29_eq i 3) (g := 28) (c := 3) rfl rfl (by decide) _ _ _, ?_⟩
        refine List.forall_mem_cons.2 ⟨tile_cast i arg3 harg3 arg4 harg4 x1 x2 (k0_off29_eq i 2) (g := 28) (c := 2) rfl rfl (by decide) _ _ _, ?_⟩
        refine List.forall_mem_cons.2 ⟨tile_cast i arg3 harg3 arg4 harg4 x1 x2 (k0_off29_eq i 1) (g := 28) (c := 1) rfl rfl (by decide) _ _ _, ?_⟩
        refine List.forall_mem_cons.2 ⟨tile_cast i arg3 harg3 arg4 harg4 x1 x2 (k0_off29_eq i 0) (g := 28) (c := 0) rfl rfl (by decide) _ _ _, ?_⟩
        refine List.forall_mem_cons.2 ⟨tile_cast i arg3 harg3 arg4 harg4 x1 x2 (k0_off28_eq i 7) (g := 27) (c := 7) rfl rfl (by decide) _ _ _, ?_⟩
        refine List.forall_mem_cons.2 ⟨tile_cast i arg3 harg3 arg4 harg4 x1 x2 (k0_off28_eq i 6) (g := 27) (c := 6) rfl rfl (by decide) _ _ _, ?_⟩
        refine List.forall_mem_cons.2 ⟨tile_cast i arg3 harg3 arg4 harg4 x1 x2 (k0_off28_eq i 5) (g := 27) (c := 5) rfl rfl (by decide) _ _ _, ?_⟩
        refine List.forall_mem_cons.2 ⟨tile_cast i arg3 harg3 arg4 harg4 x1 x2 (k0_off28_eq i 4) (g := 27) (c := 4) rfl rfl (by decide) _ _ _, ?_⟩
        refine List.forall_mem_cons.2 ⟨tile_cast i arg3 harg3 arg4 harg4 x1 x2 (k0_off28_eq i 3) (g := 27) (c := 3) rfl rfl (by decide) _ _ _, ?_⟩
        refine List.forall_mem_cons.2 ⟨tile_cast i arg3 harg3 arg4 harg4 x1 x2 (k0_off28_eq i 2) (g := 27) (c := 2) rfl rfl (by decide) _ _ _, ?_⟩
        refine List.forall_mem_cons.2 ⟨tile_cast i arg3 harg3 arg4 harg4 x1 x2 (k0_off28_eq i 1) (g := 27) (c := 1) rfl rfl (by decide) _ _ _, ?_⟩
        refine List.forall_mem_cons.2 ⟨tile_cast i arg3 harg3 arg4 harg4 x1 x2 (k0_off28_eq i 0) (g := 27) (c := 0) rfl rfl (by decide) _ _ _, ?_⟩
        refine List.forall_mem_cons.2 ⟨tile_cast i arg3 harg3 arg4 harg4 x1 x2 (k0_off27_eq i 7) (g := 26) (c := 7) rfl rfl (by decide) _ _ _, ?_⟩
        refine List.forall_mem_cons.2 ⟨tile_cast i arg3 harg3 arg4 harg4 x1 x2 (k0_off27_eq i 6) (g := 26) (c := 6) rfl rfl (by decide) _ _ _, ?_⟩
        refine List.forall_mem_cons.2 ⟨tile_cast i arg3 harg3 arg4 harg4 x1 x2 (k0_off27_eq i 5) (g := 26) (c := 5) rfl rfl (by decide) _ _ _, ?_⟩
        refine List.forall_mem_cons.2 ⟨tile_cast i arg3 harg3 arg4 harg4 x1 x2 (k0_off27_eq i 4) (g := 26) (c := 4) rfl rfl (by decide) _ _ _, ?_⟩
        refine List.forall_mem_cons.2 ⟨tile_cast i arg3 harg3 arg4 harg4 x1 x2 (k0_off27_eq i 3) (g := 26) (c := 3) rfl rfl (by decide) _ _ _, ?_⟩
        refine List.forall_mem_cons.2 ⟨tile_cast i arg3 harg3 arg4 harg4 x1 x2 (k0_off27_eq i 2) (g := 26) (c := 2) rfl rfl (by decide) _ _ _, ?_⟩
        refine List.forall_mem_cons.2 ⟨tile_cast i arg3 harg3 arg4 harg4 x1 x2 (k0_off27_eq i 1) (g := 26) (c := 1) rfl rfl (by decide) _ _ _, ?_⟩
        refine List.forall_mem_cons.2 ⟨tile_cast i arg3 harg3 arg4 harg4 x1 x2 (k0_off27_eq i 0) (g := 26) (c := 0) rfl rfl (by decide) _ _ _, ?_⟩
        refine List.forall_mem_cons.2 ⟨tile_cast i arg3 harg3 arg4 harg4 x1 x2 (k0_off26_eq i 7) (g := 25) (c := 7) rfl rfl (by decide) _ _ _, ?_⟩
        refine List.forall_mem_cons.2 ⟨tile_cast i arg3 harg3 arg4 harg4 x1 x2 (k0_off26_eq i 6) (g := 25) (c := 6) rfl rfl (by decide) _ _ _, ?_⟩
        refine List.forall_mem_cons.2 ⟨tile_cast i arg3 harg3 arg4 harg4 x1 x2 (k0_off26_eq i 5) (g := 25) (c := 5) rfl rfl (by decide) _ _ _, ?_⟩
        refine List.forall_mem_cons.2 ⟨tile_cast i arg3 harg3 arg4 harg4 x1 x2 (k0_off26_eq i 4) (g := 25) (c := 4) rfl rfl (by decide) _ _ _, ?_⟩
        refine List.forall_mem_cons.2 ⟨tile_cast i arg3 harg3 arg4 harg4 x1 x2 (k0_off26_eq i 3) (g := 25) (c := 3) rfl rfl (by decide) _ _ _, ?_⟩
        refine List.forall_mem_cons.2 ⟨tile_cast i arg3 harg3 arg4 harg4 x1 x2 (k0_off26_eq i 2) (g := 25) (c := 2) rfl rfl (by decide) _ _ _, ?_⟩
        refine List.forall_mem_cons.2 ⟨tile_cast i arg3 harg3 arg4 harg4 x1 x2 (k0_off26_eq i 1) (g := 25) (c := 1) rfl rfl (by decide) _ _ _, ?_⟩
        refine List.forall_mem_cons.2 ⟨tile_cast i arg3 harg3 arg4 harg4 x1 x2 (k0_off26_eq i 0) (g := 25) (c := 0) rfl rfl (by decide) _ _ _, ?_⟩
        refine List.forall_mem_cons.2 ⟨tile_cast i arg3 harg3 arg4 harg4 x1 x2 (k0_off25_eq i 7) (g := 24) (c := 7) rfl rfl (by decide) _ _ _, ?_⟩
        refine List.forall_mem_cons.2 ⟨tile_cast i arg3 harg3 arg4 harg4 x1 x2 (k0_off25_eq i 6) (g := 24) (c := 6) rfl rfl (by decide) _ _ _, ?_⟩
        refine List.forall_mem_cons.2 ⟨tile_cast i arg3 harg3 arg4 harg4 x1 x2 (k0_off25_eq i 5) (g := 24) (c := 5) rfl rfl (by decide) _ _ _, ?_⟩
        refine List.forall_mem_cons.2 ⟨tile_cast i arg3 harg3 arg4 harg4 x1 x2 (k0_off25_eq i 4) (g := 24) (c := 4) rfl rfl (by decide) _ _ _, ?_⟩
        refine List.forall_mem_cons.2 ⟨tile_cast i arg3 harg3 arg4 harg4 x1 x2 (k0_off25_eq i 3) (g := 24) (c := 3) rfl rfl (by decide) _ _ _, ?_⟩
        refine List.forall_mem_cons.2 ⟨tile_cast i arg3 harg3 arg4 harg4 x1 x2 (k0_off25_eq i 2) (g := 24) (c := 2) rfl rfl (by decide) _ _ _, ?_⟩
        refine List.forall_mem_cons.2 ⟨tile_cast i arg3 harg3 arg4 harg4 x1 x2 (k0_off25_eq i 1) (g := 24) (c := 1) rfl rfl (by decide) _ _ _, ?_⟩
        refine List.forall_mem_cons.2 ⟨tile_cast i arg3 harg3 arg4 harg4 x1 x2 (k0_off25_eq i 0) (g := 24) (c := 0) rfl rfl (by decide) _ _ _, ?_⟩
        refine List.forall_mem_cons.2 ⟨tile_cast i arg3 harg3 arg4 harg4 x1 x2 (k0_off24_eq i 7) (g := 23) (c := 7) rfl rfl (by decide) _ _ _, ?_⟩
        refine List.forall_mem_cons.2 ⟨tile_cast i arg3 harg3 arg4 harg4 x1 x2 (k0_off24_eq i 6) (g := 23) (c := 6) rfl rfl (by decide) _ _ _, ?_⟩
        refine List.forall_mem_cons.2 ⟨tile_cast i arg3 harg3 arg4 harg4 x1 x2 (k0_off24_eq i 5) (g := 23) (c := 5) rfl rfl (by decide) _ _ _, ?_⟩
        refine List.forall_mem_cons.2 ⟨tile_cast i arg3 harg3 arg4 harg4 x1 x2 (k0_off24_eq i 4) (g := 23) (c := 4) rfl rfl (by decide) _ _ _, ?_⟩
        refine List.forall_mem_cons.2 ⟨tile_cast i arg3 harg3 arg4 harg4 x1 x2 (k0_off24_eq i 3) (g := 23) (c := 3) rfl rfl (by decide) _ _ _, ?_⟩
        refine List.forall_mem_cons.2 ⟨tile_cast i arg3 harg3 arg4 harg4 x1 x2 (k0_off24_eq i 2) (g := 23) (c := 2) rfl rfl (by decide) _ _ _, ?_⟩
        refine List.forall_mem_cons.2 ⟨tile_cast i arg3 harg3 arg4 harg4 x1 x2 (k0_off24_eq i 1) (g := 23) (c := 1) rfl rfl (by decide) _ _ _, ?_⟩
        refine List.forall_mem_cons.2 ⟨tile_cast i arg3 harg3 arg4 harg4 x1 x2 (k0_off24_eq i 0) (g := 23) (c := 0) rfl rfl (by decide) _ _ _, ?_⟩
        refine List.forall_mem_cons.2 ⟨tile_cast i arg3 harg3 arg4 harg4 x1 x2 (k0_off23_eq i 7) (g := 22) (c := 7) rfl rfl (by decide) _ _ _, ?_⟩
        refine List.forall_mem_cons.2 ⟨tile_cast i arg3 harg3 arg4 harg4 x1 x2 (k0_off23_eq i 6) (g := 22) (c := 6) rfl rfl (by decide) _ _ _, ?_⟩
        refine List.forall_mem_cons.2 ⟨tile_cast i arg3 harg3 arg4 harg4 x1 x2 (k0_off23_eq i 5) (g := 22) (c := 5) rfl rfl (by decide) _ _ _, ?_⟩
        refine List.forall_mem_cons.2 ⟨tile_cast i arg3 harg3 arg4 harg4 x1 x2 (k0_off23_eq i 4) (g := 22) (c := 4) rfl rfl (by decide) _ _ _, ?_⟩
        refine List.forall_mem_cons.2 ⟨tile_cast i arg3 harg3 arg4 harg4 x1 x2 (k0_off23_eq i 3) (g := 22) (c := 3) rfl rfl (by decide) _ _ _, ?_⟩
        refine List.forall_mem_cons.2 ⟨tile_cast i arg3 harg3 arg4 harg4 x1 x2 (k0_off23_eq i 2) (g := 22) (c := 2) rfl rfl (by decide) _ _ _, ?_⟩
        refine List.forall_mem_cons.2 ⟨tile_cast i arg3 harg3 arg4 harg4 x1 x2 (k0_off23_eq i 1) (g := 22) (c := 1) rfl rfl (by decide) _ _ _, ?_⟩
        refine List.forall_mem_cons.2 ⟨tile_cast i arg3 harg3 arg4 harg4 x1 x2 (k0_off23_eq i 0) (g := 22) (c := 0) rfl rfl (by decide) _ _ _, ?_⟩
        refine List.forall_mem_cons.2 ⟨tile_cast i arg3 harg3 arg4 harg4 x1 x2 (k0_off22_eq i 7) (g := 21) (c := 7) rfl rfl (by decide) _ _ _, ?_⟩
        refine List.forall_mem_cons.2 ⟨tile_cast i arg3 harg3 arg4 harg4 x1 x2 (k0_off22_eq i 6) (g := 21) (c := 6) rfl rfl (by decide) _ _ _, ?_⟩
        refine List.forall_mem_cons.2 ⟨tile_cast i arg3 harg3 arg4 harg4 x1 x2 (k0_off22_eq i 5) (g := 21) (c := 5) rfl rfl (by decide) _ _ _, ?_⟩
        refine List.forall_mem_cons.2 ⟨tile_cast i arg3 harg3 arg4 harg4 x1 x2 (k0_off22_eq i 4) (g := 21) (c := 4) rfl rfl (by decide) _ _ _, ?_⟩
        refine List.forall_mem_cons.2 ⟨tile_cast i arg3 harg3 arg4 harg4 x1 x2 (k0_off22_eq i 3) (g := 21) (c := 3) rfl rfl (by decide) _ _ _, ?_⟩
        refine List.forall_mem_cons.2 ⟨tile_cast i arg3 harg3 arg4 harg4 x1 x2 (k0_off22_eq i 2) (g := 21) (c := 2) rfl rfl (by decide) _ _ _, ?_⟩
        refine List.forall_mem_cons.2 ⟨tile_cast i arg3 harg3 arg4 harg4 x1 x2 (k0_off22_eq i 1) (g := 21) (c := 1) rfl rfl (by decide) _ _ _, ?_⟩
        refine List.forall_mem_cons.2 ⟨tile_cast i arg3 harg3 arg4 harg4 x1 x2 (k0_off22_eq i 0) (g := 21) (c := 0) rfl rfl (by decide) _ _ _, ?_⟩
        refine List.forall_mem_cons.2 ⟨tile_cast i arg3 harg3 arg4 harg4 x1 x2 (k0_off21_eq i 7) (g := 20) (c := 7) rfl rfl (by decide) _ _ _, ?_⟩
        refine List.forall_mem_cons.2 ⟨tile_cast i arg3 harg3 arg4 harg4 x1 x2 (k0_off21_eq i 6) (g := 20) (c := 6) rfl rfl (by decide) _ _ _, ?_⟩
        refine List.forall_mem_cons.2 ⟨tile_cast i arg3 harg3 arg4 harg4 x1 x2 (k0_off21_eq i 5) (g := 20) (c := 5) rfl rfl (by decide) _ _ _, ?_⟩
        refine List.forall_mem_cons.2 ⟨tile_cast i arg3 harg3 arg4 harg4 x1 x2 (k0_off21_eq i 4) (g := 20) (c := 4) rfl rfl (by decide) _ _ _, ?_⟩
        refine List.forall_mem_cons.2 ⟨tile_cast i arg3 harg3 arg4 harg4 x1 x2 (k0_off21_eq i 3) (g := 20) (c := 3) rfl rfl (by decide) _ _ _, ?_⟩
        refine List.forall_mem_cons.2 ⟨tile_cast i arg3 harg3 arg4 harg4 x1 x2 (k0_off21_eq i 2) (g := 20) (c := 2) rfl rfl (by decide) _ _ _, ?_⟩
        refine List.forall_mem_cons.2 ⟨tile_cast i arg3 harg3 arg4 harg4 x1 x2 (k0_off21_eq i 1) (g := 20) (c := 1) rfl rfl (by decide) _ _ _, ?_⟩
        refine List.forall_mem_cons.2 ⟨tile_cast i arg3 harg3 arg4 harg4 x1 x2 (k0_off21_eq i 0) (g := 20) (c := 0) rfl rfl (by decide) _ _ _, ?_⟩
        refine List.forall_mem_cons.2 ⟨tile_cast i arg3 harg3 arg4 harg4 x1 x2 (k0_off20_eq i 7) (g := 19) (c := 7) rfl rfl (by decide) _ _ _, ?_⟩
        refine List.forall_mem_cons.2 ⟨tile_cast i arg3 harg3 arg4 harg4 x1 x2 (k0_off20_eq i 6) (g := 19) (c := 6) rfl rfl (by decide) _ _ _, ?_⟩
        refine List.forall_mem_cons.2 ⟨tile_cast i arg3 harg3 arg4 harg4 x1 x2 (k0_off20_eq i 5) (g := 19) (c := 5) rfl rfl (by decide) _ _ _, ?_⟩
        refine List.forall_mem_cons.2 ⟨tile_cast i arg3 harg3 arg4 harg4 x1 x2 (k0_off20_eq i 4) (g := 19) (c := 4) rfl rfl (by decide) _ _ _, ?_⟩
        refine List.forall_mem_cons.2 ⟨tile_cast i arg3 harg3 arg4 harg4 x1 x2 (k0_off20_eq i 3) (g := 19) (c := 3) rfl rfl (by decide) _ _ _, ?_⟩
        refine List.forall_mem_cons.2 ⟨tile_cast i arg3 harg3 arg4 harg4 x1 x2 (k0_off20_eq i 2) (g := 19) (c := 2) rfl rfl (by decide) _ _ _, ?_⟩
        refine List.forall_mem_cons.2 ⟨tile_cast i arg3 harg3 arg4 harg4 x1 x2 (k0_off20_eq i 1) (g := 19) (c := 1) rfl rfl (by decide) _ _ _, ?_⟩
        refine List.forall_mem_cons.2 ⟨tile_cast i arg3 harg3 arg4 harg4 x1 x2 (k0_off20_eq i 0) (g := 19) (c := 0) rfl rfl (by decide) _ _ _, ?_⟩
        refine List.forall_mem_cons.2 ⟨tile_cast i arg3 harg3 arg4 harg4 x1 x2 (k0_off19_eq i 7) (g := 18) (c := 7) rfl rfl (by decide) _ _ _, ?_⟩
        refine List.forall_mem_cons.2 ⟨tile_cast i arg3 harg3 arg4 harg4 x1 x2 (k0_off19_eq i 6) (g := 18) (c := 6) rfl rfl (by decide) _ _ _, ?_⟩
        refine List.forall_mem_cons.2 ⟨tile_cast i arg3 harg3 arg4 harg4 x1 x2 (k0_off19_eq i 5) (g := 18) (c := 5) rfl rfl (by decide) _ _ _, ?_⟩
        refine List.forall_mem_cons.2 ⟨tile_cast i arg3 harg3 arg4 harg4 x1 x2 (k0_off19_eq i 4) (g := 18) (c := 4) rfl rfl (by decide) _ _ _, ?_⟩
        refine List.forall_mem_cons.2 ⟨tile_cast i arg3 harg3 arg4 harg4 x1 x2 (k0_off19_eq i 3) (g := 18) (c := 3) rfl rfl (by decide) _ _ _, ?_⟩
        refine List.forall_mem_cons.2 ⟨tile_cast i arg3 harg3 arg4 harg4 x1 x2 (k0_off19_eq i 2) (g := 18) (c := 2) rfl rfl (by decide) _ _ _, ?_⟩
        refine List.forall_mem_cons.2 ⟨tile_cast i arg3 harg3 arg4 harg4 x1 x2 (k0_off19_eq i 1) (g := 18) (c := 1) rfl rfl (by decide) _ _ _, ?_⟩
        refine List.forall_mem_cons.2 ⟨tile_cast i arg3 harg3 arg4 harg4 x1 x2 (k0_off19_eq i 0) (g := 18) (c := 0) rfl rfl (by decide) _ _ _, ?_⟩
        refine List.forall_mem_cons.2 ⟨tile_cast i arg3 harg3 arg4 harg4 x1 x2 (k0_off18_eq i 7) (g := 17) (c := 7) rfl rfl (by decide) _ _ _, ?_⟩
        refine List.forall_mem_cons.2 ⟨tile_cast i arg3 harg3 arg4 harg4 x1 x2 (k0_off18_eq i 6) (g := 17) (c := 6) rfl rfl (by decide) _ _ _, ?_⟩
        refine List.forall_mem_cons.2 ⟨tile_cast i arg3 harg3 arg4 harg4 x1 x2 (k0_off18_eq i 5) (g := 17) (c := 5) rfl rfl (by decide) _ _ _, ?_⟩
        refine List.forall_mem_cons.2 ⟨tile_cast i arg3 harg3 arg4 harg4 x1 x2 (k0_off18_eq i 4) (g := 17) (c := 4) rfl rfl (by decide) _ _ _, ?_⟩
        refine List.forall_mem_cons.2 ⟨tile_cast i arg3 harg3 arg4 harg4 x1 x2 (k0_off18_eq i 3) (g := 17) (c := 3) rfl rfl (by decide) _ _ _, ?_⟩
        refine List.forall_mem_cons.2 ⟨tile_cast i arg3 harg3 arg4 harg4 x1 x2 (k0_off18_eq i 2) (g := 17) (c := 2) rfl rfl (by decide) _ _ _, ?_⟩
        refine List.forall_mem_cons.2 ⟨tile_cast i arg3 harg3 arg4 harg4 x1 x2 (k0_off18_eq i 1) (g := 17) (c := 1) rfl rfl (by decide) _ _ _, ?_⟩
        refine List.forall_mem_cons.2 ⟨tile_cast i arg3 harg3 arg4 harg4 x1 x2 (k0_off18_eq i 0) (g := 17) (c := 0) rfl rfl (by decide) _ _ _, ?_⟩
        refine List.forall_mem_cons.2 ⟨tile_cast i arg3 harg3 arg4 harg4 x1 x2 (k0_off17_eq i 7) (g := 16) (c := 7) rfl rfl (by decide) _ _ _, ?_⟩
        refine List.forall_mem_cons.2 ⟨tile_cast i arg3 harg3 arg4 harg4 x1 x2 (k0_off17_eq i 6) (g := 16) (c := 6) rfl rfl (by decide) _ _ _, ?_⟩
        refine List.forall_mem_cons.2 ⟨tile_cast i arg3 harg3 arg4 harg4 x1 x2 (k0_off17_eq i 5) (g := 16) (c := 5) rfl rfl (by decide) _ _ _, ?_⟩
        refine List.forall_mem_cons.2 ⟨tile_cast i arg3 harg3 arg4 harg4 x1 x2 (k0_off17_eq i 4) (g := 16) (c := 4) rfl rfl (by decide) _ _ _, ?_⟩
        refine List.forall_mem_cons.2 ⟨tile_cast i arg3 harg3 arg4 harg4 x1 x2 (k0_off17_eq i 3) (g := 16) (c := 3) rfl rfl (by decide) _ _ _, ?_⟩
        refine List.forall_mem_cons.2 ⟨tile_cast i arg3 harg3 arg4 harg4 x1 x2 (k0_off17_eq i 2) (g := 16) (c := 2) rfl rfl (by decide) _ _ _, ?_⟩
        refine List.forall_mem_cons.2 ⟨tile_cast i arg3 harg3 arg4 harg4 x1 x2 (k0_off17_eq i 1) (g := 16) (c := 1) rfl rfl (by decide) _ _ _, ?_⟩
        refine List.forall_mem_cons.2 ⟨tile_cast i arg3 harg3 arg4 harg4 x1 x2 (k0_off17_eq i 0) (g := 16) (c := 0) rfl rfl (by decide) _ _ _, ?_⟩
        refine List.forall_mem_cons.2 ⟨tile_cast i arg3 harg3 arg4 harg4 x1 x2 (k0_off16_eq i 7) (g := 15) (c := 7) rfl rfl (by decide) _ _ _, ?_⟩
        refine List.forall_mem_cons.2 ⟨tile_cast i arg3 harg3 arg4 harg4 x1 x2 (k0_off16_eq i 6) (g := 15) (c := 6) rfl rfl (by decide) _ _ _, ?_⟩
        refine List.forall_mem_cons.2 ⟨tile_cast i arg3 harg3 arg4 harg4 x1 x2 (k0_off16_eq i 5) (g := 15) (c := 5) rfl rfl (by decide) _ _ _, ?_⟩
        refine List.forall_mem_cons.2 ⟨tile_cast i arg3 harg3 arg4 harg4 x1 x2 (k0_off16_eq i 4) (g := 15) (c := 4) rfl rfl (by decide) _ _ _, ?_⟩
        refine List.forall_mem_cons.2 ⟨tile_cast i arg3 harg3 arg4 harg4 x1 x2 (k0_off16_eq i 3) (g := 15) (c := 3) rfl rfl (by decide) _ _ _, ?_⟩
        refine List.forall_mem_cons.2 ⟨tile_cast i arg3 harg3 arg4 harg4 x1 x2 (k0_off16_eq i 2) (g := 15) (c := 2) rfl rfl (by decide) _ _ _, ?_⟩
        refine List.forall_mem_cons.2 ⟨tile_cast i arg3 harg3 arg4 harg4 x1 x2 (k0_off16_eq i 1) (g := 15) (c := 1) rfl rfl (by decide) _ _ _, ?_⟩
        refine List.forall_mem_cons.2 ⟨tile_cast i arg3 harg3 arg4 harg4 x1 x2 (k0_off16_eq i 0) (g := 15) (c := 0) rfl rfl (by decide) _ _ _, ?_⟩
        refine List.forall_mem_cons.2 ⟨tile_cast i arg3 harg3 arg4 harg4 x1 x2 (k0_off15_eq i 7) (g := 14) (c := 7) rfl rfl (by decide) _ _ _, ?_⟩
        refine List.forall_mem_cons.2 ⟨tile_cast i arg3 harg3 arg4 harg4 x1 x2 (k0_off15_eq i 6) (g := 14) (c := 6) rfl rfl (by decide) _ _ _, ?_⟩
        refine List.forall_mem_cons.2 ⟨tile_cast i arg3 harg3 arg4 harg4 x1 x2 (k0_off15_eq i 5) (g := 14) (c := 5) rfl rfl (by decide) _ _ _, ?_⟩
        refine List.forall_mem_cons.2 ⟨tile_cast i arg3 harg3 arg4 harg4 x1 x2 (k0_off15_eq i 4) (g := 14) (c := 4) rfl rfl (by decide) _ _ _, ?_⟩
        refine List.forall_mem_cons.2 ⟨tile_cast i arg3 harg3 arg4 harg4 x1 x2 (k0_off15_eq i 3) (g := 14) (c := 3) rfl rfl (by decide) _ _ _, ?_⟩
        refine List.forall_mem_cons.2 ⟨tile_cast i arg3 harg3 arg4 harg4 x1 x2 (k0_off15_eq i 2) (g := 14) (c := 2) rfl rfl (by decide) _ _ _, ?_⟩
        refine List.forall_mem_cons.2 ⟨tile_cast i arg3 harg3 arg4 harg4 x1 x2 (k0_off15_eq i 1) (g := 14) (c := 1) rfl rfl (by decide) _ _ _, ?_⟩
        refine List.forall_mem_cons.2 ⟨tile_cast i arg3 harg3 arg4 harg4 x1 x2 (k0_off15_eq i 0) (g := 14) (c := 0) rfl rfl (by decide) _ _ _, ?_⟩
        refine List.forall_mem_cons.2 ⟨tile_cast i arg3 harg3 arg4 harg4 x1 x2 (k0_off14_eq i 7) (g := 13) (c := 7) rfl rfl (by decide) _ _ _, ?_⟩
        refine List.forall_mem_cons.2 ⟨tile_cast i arg3 harg3 arg4 harg4 x1 x2 (k0_off14_eq i 6) (g := 13) (c := 6) rfl rfl (by decide) _ _ _, ?_⟩
        refine List.forall_mem_cons.2 ⟨tile_cast i arg3 harg3 arg4 harg4 x1 x2 (k0_off14_eq i 5) (g := 13) (c := 5) rfl rfl (by decide) _ _ _, ?_⟩
        refine List.forall_mem_cons.2 ⟨tile_cast i arg3 harg3 arg4 harg4 x1 x2 (k0_off14_eq i 4) (g := 13) (c := 4) rfl rfl (by decide) _ _ _, ?_⟩
        refine List.forall_mem_cons.2 ⟨tile_cast i arg3 harg3 arg4 harg4 x1 x2 (k0_off14_eq i 3) (g := 13) (c := 3) rfl rfl (by decide) _ _ _, ?_⟩
        refine List.forall_mem_cons.2 ⟨tile_cast i arg3 harg3 arg4 harg4 x1 x2 (k0_off14_eq i 2) (g := 13) (c := 2) rfl rfl (by decide) _ _ _, ?_⟩
        refine List.forall_mem_cons.2 ⟨tile_cast i arg3 harg3 arg4 harg4 x1 x2 (k0_off14_eq i 1) (g := 13) (c := 1) rfl rfl (by decide) _ _ _, ?_⟩
        refine List.forall_mem_cons.2 ⟨tile_cast i arg3 harg3 arg4 harg4 x1 x2 (k0_off14_eq i 0) (g := 13) (c := 0) rfl rfl (by decide) _ _ _, ?_⟩
        refine List.forall_mem_cons.2 ⟨tile_cast i arg3 harg3 arg4 harg4 x1 x2 (k0_off13_eq i 7) (g := 12) (c := 7) rfl rfl (by decide) _ _ _, ?_⟩
        refine List.forall_mem_cons.2 ⟨tile_cast i arg3 harg3 arg4 harg4 x1 x2 (k0_off13_eq i 6) (g := 12) (c := 6) rfl rfl (by decide) _ _ _, ?_⟩
        refine List.forall_mem_cons.2 ⟨tile_cast i arg3 harg3 arg4 harg4 x1 x2 (k0_off13_eq i 5) (g := 12) (c := 5) rfl rfl (by decide) _ _ _, ?_⟩
        refine List.forall_mem_cons.2 ⟨tile_cast i arg3 harg3 arg4 harg4 x1 x2 (k0_off13_eq i 4) (g := 12) (c := 4) rfl rfl (by decide) _ _ _, ?_⟩
        refine List.forall_mem_cons.2 ⟨tile_cast i arg3 harg3 arg4 harg4 x1 x2 (k0_off13_eq i 3) (g := 12) (c := 3) rfl rfl (by decide) _ _ _, ?_⟩
        refine List.forall_mem_cons.2 ⟨tile_cast i arg3 harg3 arg4 harg4 x1 x2 (k0_off13_eq i 2) (g := 12) (c := 2) rfl rfl (by decide) _ _ _, ?_⟩
        refine List.forall_mem_cons.2 ⟨tile_cast i arg3 harg3 arg4 harg4 x1 x2 (k0_off13_eq i 1) (g := 12) (c := 1) rfl rfl (by decide) _ _ _, ?_⟩
        refine List.forall_mem_cons.2 ⟨tile_cast i arg3 harg3 arg4 harg4 x1 x2 (k0_off13_eq i 0) (g := 12) (c := 0) rfl rfl (by decide) _ _ _, ?_⟩
        refine List.forall_mem_cons.2 ⟨tile_cast i arg3 harg3 arg4 harg4 x1 x2 (k0_off12_eq i 7) (g := 11) (c := 7) rfl rfl (by decide) _ _ _, ?_⟩
        refine List.forall_mem_cons.2 ⟨tile_cast i arg3 harg3 arg4 harg4 x1 x2 (k0_off12_eq i 6) (g := 11) (c := 6) rfl rfl (by decide) _ _ _, ?_⟩
        refine List.forall_mem_cons.2 ⟨tile_cast i arg3 harg3 arg4 harg4 x1 x2 (k0_off12_eq i 5) (g := 11) (c := 5) rfl rfl (by decide) _ _ _, ?_⟩
        refine List.forall_mem_cons.2 ⟨tile_cast i arg3 harg3 arg4 harg4 x1 x2 (k0_off12_eq i 4) (g := 11) (c := 4) rfl rfl (by decide) _ _ _, ?_⟩
        refine List.forall_mem_cons.2 ⟨tile_cast i arg3 harg3 arg4 harg4 x1 x2 (k0_off12_eq i 3) (g := 11) (c := 3) rfl rfl (by decide) _ _ _, ?_⟩
        refine List.forall_mem_cons.2 ⟨tile_cast i arg3 harg3 arg4 harg4 x1 x2 (k0_off12_eq i 2) (g := 11) (c := 2) rfl rfl (by decide) _ _ _, ?_⟩
        refine List.forall_mem_cons.2 ⟨tile_cast i arg3 harg3 arg4 harg4 x1 x2 (k0_off12_eq i 1) (g := 11) (c := 1) rfl rfl (by decide) _ _ _, ?_⟩
        refine List.forall_mem_cons.2 ⟨tile_cast i arg3 harg3 arg4 harg4 x1 x2 (k0_off12_eq i 0) (g := 11) (c := 0) rfl rfl (by decide) _ _ _, ?_⟩
        refine List.forall_mem_cons.2 ⟨tile_cast i arg3 harg3 arg4 harg4 x1 x2 (k0_off11_eq i 7) (g := 10) (c := 7) rfl rfl (by decide) _ _ _, ?_⟩
        refine List.forall_mem_cons.2 ⟨tile_cast i arg3 harg3 arg4 harg4 x1 x2 (k0_off11_eq i 6) (g := 10) (c := 6) rfl rfl (by decide) _ _ _, ?_⟩
        refine List.forall_mem_cons.2 ⟨tile_cast i arg3 harg3 arg4 harg4 x1 x2 (k0_off11_eq i 5) (g := 10) (c := 5) rfl rfl (by decide) _ _ _, ?_⟩
        refine List.forall_mem_cons.2 ⟨tile_cast i arg3 harg3 arg4 harg4 x1 x2 (k0_off11_eq i 4) (g := 10) (c := 4) rfl rfl (by decide) _ _ _, ?_⟩
        refine List.forall_mem_cons.2 ⟨tile_cast i arg3 harg3 arg4 harg4 x1 x2 (k0_off11_eq i 3) (g := 10) (c := 3) rfl rfl (by decide) _ _ _, ?_⟩
        refine List.forall_mem_cons.2 ⟨tile_cast i arg3 harg3 arg4 harg4 x1 x2 (k0_off11_eq i 2) (g := 10) (c := 2) rfl rfl (by decide) _ _ _, ?_⟩
        refine List.forall_mem_cons.2 ⟨tile_cast i arg3 harg3 arg4 harg4 x1 x2 (k0_off11_eq i 1) (g := 10) (c := 1) rfl rfl (by decide) _ _ _, ?_⟩
        refine List.forall_mem_cons.2 ⟨tile_cast i arg3 harg3 arg4 harg4 x1 x2 (k0_off11_eq i 0) (g := 10) (c := 0) rfl rfl (by decide) _ _ _, ?_⟩
        refine List.forall_mem_cons.2 ⟨tile_cast i arg3 harg3 arg4 harg4 x1 x2 (k0_off10_eq i 7) (g := 9) (c := 7) rfl rfl (by decide) _ _ _, ?_⟩
        refine List.forall_mem_cons.2 ⟨tile_cast i arg3 harg3 arg4 harg4 x1 x2 (k0_off10_eq i 6) (g := 9) (c := 6) rfl rfl (by decide) _ _ _, ?_⟩
        refine List.forall_mem_cons.2 ⟨tile_cast i arg3 harg3 arg4 harg4 x1 x2 (k0_off10_eq i 5) (g := 9) (c := 5) rfl rfl (by decide) _ _ _, ?_⟩
        refine List.forall_mem_cons.2 ⟨tile_cast i arg3 harg3 arg4 harg4 x1 x2 (k0_off10_eq i 4) (g := 9) (c := 4) rfl rfl (by decide) _ _ _, ?_⟩
        refine List.forall_mem_cons.2 ⟨tile_cast i arg3 harg3 arg4 harg4 x1 x2 (k0_off10_eq i 3) (g := 9) (c := 3) rfl rfl (by decide) _ _ _, ?_⟩
        refine List.forall_mem_cons.2 ⟨tile_cast i arg3 harg3 arg4 harg4 x1 x2 (k0_off10_eq i 2) (g := 9) (c := 2) rfl rfl (by decide) _ _ _, ?_⟩
        refine List.forall_mem_cons.2 ⟨tile_cast i arg3 harg3 arg4 harg4 x1 x2 (k0_off10_eq i 1) (g := 9) (c := 1) rfl rfl (by decide) _ _ _, ?_⟩
        refine List.forall_mem_cons.2 ⟨tile_cast i arg3 harg3 arg4 harg4 x1 x2 (k0_off10_eq i 0) (g := 9) (c := 0) rfl rfl (by decide) _ _ _, ?_⟩
        refine List.forall_mem_cons.2 ⟨tile_cast i arg3 harg3 arg4 harg4 x1 x2 (k0_off9_eq i 7) (g := 8) (c := 7) rfl rfl (by decide) _ _ _, ?_⟩
        refine List.forall_mem_cons.2 ⟨tile_cast i arg3 harg3 arg4 harg4 x1 x2 (k0_off9_eq i 6) (g := 8) (c := 6) rfl rfl (by decide) _ _ _, ?_⟩
        refine List.forall_mem_cons.2 ⟨tile_cast i arg3 harg3 arg4 harg4 x1 x2 (k0_off9_eq i 5) (g := 8) (c := 5) rfl rfl (by decide) _ _ _, ?_⟩
        refine List.forall_mem_cons.2 ⟨tile_cast i arg3 harg3 arg4 harg4 x1 x2 (k0_off9_eq i 4) (g := 8) (c := 4) rfl rfl (by decide) _ _ _, ?_⟩
        refine List.forall_mem_cons.2 ⟨tile_cast i arg3 harg3 arg4 harg4 x1 x2 (k0_off9_eq i 3) (g := 8) (c := 3) rfl rfl (by decide) _ _ _, ?_⟩
        refine List.forall_mem_cons.2 ⟨tile_cast i arg3 harg3 arg4 harg4 x1 x2 (k0_off9_eq i 2) (g := 8) (c := 2) rfl rfl (by decide) _ _ _, ?_⟩
        refine List.forall_mem_cons.2 ⟨tile_cast i arg3 harg3 arg4 harg4 x1 x2 (k0_off9_eq i 1) (g := 8) (c := 1) rfl rfl (by decide) _ _ _, ?_⟩
        refine List.forall_mem_cons.2 ⟨tile_cast i arg3 harg3 arg4 harg4 x1 x2 (k0_off9_eq i 0) (g := 8) (c := 0) rfl rfl (by decide) _ _ _, ?_⟩
        refine List.forall_mem_cons.2 ⟨tile_cast i arg3 harg3 arg4 harg4 x1 x2 (k0_off8_eq i 7) (g := 7) (c := 7) rfl rfl (by decide) _ _ _, ?_⟩
        refine List.forall_mem_cons.2 ⟨tile_cast i arg3 harg3 arg4 harg4 x1 x2 (k0_off8_eq i 6) (g := 7) (c := 6) rfl rfl (by decide) _ _ _, ?_⟩
        refine List.forall_mem_cons.2 ⟨tile_cast i arg3 harg3 arg4 harg4 x1 x2 (k0_off8_eq i 5) (g := 7) (c := 5) rfl rfl (by decide) _ _ _, ?_⟩
        refine List.forall_mem_cons.2 ⟨tile_cast i arg3 harg3 arg4 harg4 x1 x2 (k0_off8_eq i 4) (g := 7) (c := 4) rfl rfl (by decide) _ _ _, ?_⟩
        refine List.forall_mem_cons.2 ⟨tile_cast i arg3 harg3 arg4 harg4 x1 x2 (k0_off8_eq i 3) (g := 7) (c := 3) rfl rfl (by decide) _ _ _, ?_⟩
        refine List.forall_mem_cons.2 ⟨tile_cast i arg3 harg3 arg4 harg4 x1 x2 (k0_off8_eq i 2) (g := 7) (c := 2) rfl rfl (by decide) _ _ _, ?_⟩
        refine List.forall_mem_cons.2 ⟨tile_cast i arg3 harg3 arg4 harg4 x1 x2 (k0_off8_eq i 1) (g := 7) (c := 1) rfl rfl (by decide) _ _ _, ?_⟩
        refine List.forall_mem_cons.2 ⟨tile_cast i arg3 harg3 arg4 harg4 x1 x2 (k0_off8_eq i 0) (g := 7) (c := 0) rfl rfl (by decide) _ _ _, ?_⟩
        refine List.forall_mem_cons.2 ⟨tile_cast i arg3 harg3 arg4 harg4 x1 x2 (k0_off7_eq i 7) (g := 6) (c := 7) rfl rfl (by decide) _ _ _, ?_⟩
        refine List.forall_mem_cons.2 ⟨tile_cast i arg3 harg3 arg4 harg4 x1 x2 (k0_off7_eq i 6) (g := 6) (c := 6) rfl rfl (by decide) _ _ _, ?_⟩
        refine List.forall_mem_cons.2 ⟨tile_cast i arg3 harg3 arg4 harg4 x1 x2 (k0_off7_eq i 5) (g := 6) (c := 5) rfl rfl (by decide) _ _ _, ?_⟩
        refine List.forall_mem_cons.2 ⟨tile_cast i arg3 harg3 arg4 harg4 x1 x2 (k0_off7_eq i 4) (g := 6) (c := 4) rfl rfl (by decide) _ _ _, ?_⟩
        refine List.forall_mem_cons.2 ⟨tile_cast i arg3 harg3 arg4 harg4 x1 x2 (k0_off7_eq i 3) (g := 6) (c := 3) rfl rfl (by decide) _ _ _, ?_⟩
        refine List.forall_mem_cons.2 ⟨tile_cast i arg3 harg3 arg4 harg4 x1 x2 (k0_off7_eq i 2) (g := 6) (c := 2) rfl rfl (by decide) _ _ _, ?_⟩
        refine List.forall_mem_cons.2 ⟨tile_cast i arg3 harg3 arg4 harg4 x1 x2 (k0_off7_eq i 1) (g := 6) (c := 1) rfl rfl (by decide) _ _ _, ?_⟩
        refine List.forall_mem_cons.2 ⟨tile_cast i arg3 harg3 arg4 harg4 x1 x2 (k0_off7_eq i 0) (g := 6) (c := 0) rfl rfl (by decide) _ _ _, ?_⟩
        refine List.forall_mem_cons.2 ⟨tile_cast i arg3 harg3 arg4 harg4 x1 x2 (k0_off6_eq i 7) (g := 5) (c := 7) rfl rfl (by decide) _ _ _, ?_⟩
        refine List.forall_mem_cons.2 ⟨tile_cast i arg3 harg3 arg4 harg4 x1 x2 (k0_off6_eq i 6) (g := 5) (c := 6) rfl rfl (by decide) _ _ _, ?_⟩
        refine List.forall_mem_cons.2 ⟨tile_cast i arg3 harg3 arg4 harg4 x1 x2 (k0_off6_eq i 5) (g := 5) (c := 5) rfl rfl (by decide) _ _ _, ?_⟩
        refine List.forall_mem_cons.2 ⟨tile_cast i arg3 harg3 arg4 harg4 x1 x2 (k0_off6_eq i 4) (g := 5) (c := 4) rfl rfl (by decide) _ _ _, ?_⟩
        refine List.forall_mem_cons.2 ⟨tile_cast i arg3 harg3 arg4 harg4 x1 x2 (k0_off6_eq i 3) (g := 5) (c := 3) rfl rfl (by decide) _ _ _, ?_⟩
        refine List.forall_mem_cons.2 ⟨tile_cast i arg3 harg3 arg4 harg4 x1 x2 (k0_off6_eq i 2) (g := 5) (c := 2) rfl rfl (by decide) _ _ _, ?_⟩
        refine List.forall_mem_cons.2 ⟨tile_cast i arg3 harg3 arg4 harg4 x1 x2 (k0_off6_eq i 1) (g := 5) (c := 1) rfl rfl (by decide) _ _ _, ?_⟩
        refine List.forall_mem_cons.2 ⟨tile_cast i arg3 harg3 arg4 harg4 x1 x2 (k0_off6_eq i 0) (g := 5) (c := 0) rfl rfl (by decide) _ _ _, ?_⟩
        refine List.forall_mem_cons.2 ⟨tile_cast i arg3 harg3 arg4 harg4 x1 x2 (k0_off5_eq i 7) (g := 4) (c := 7) rfl rfl (by decide) _ _ _, ?_⟩
        refine List.forall_mem_cons.2 ⟨tile_cast i arg3 harg3 arg4 harg4 x1 x2 (k0_off5_eq i 6) (g := 4) (c := 6) rfl rfl (by decide) _ _ _, ?_⟩
        refine List.forall_mem_cons.2 ⟨tile_cast i arg3 harg3 arg4 harg4 x1 x2 (k0_off5_eq i 5) (g := 4) (c := 5) rfl rfl (by decide) _ _ _, ?_⟩
        refine List.forall_mem_cons.2 ⟨tile_cast i arg3 harg3 arg4 harg4 x1 x2 (k0_off5_eq i 4) (g := 4) (c := 4) rfl rfl (by decide) _ _ _, ?_⟩
        refine List.forall_mem_cons.2 ⟨tile_cast i arg3 harg3 arg4 harg4 x1 x2 (k0_off5_eq i 3) (g := 4) (c := 3) rfl rfl (by decide) _ _ _, ?_⟩
        refine List.forall_mem_cons.2 ⟨tile_cast i arg3 harg3 arg4 harg4 x1 x2 (k0_off5_eq i 2) (g := 4) (c := 2) rfl rfl (by decide) _ _ _, ?_⟩
        refine List.forall_mem_cons.2 ⟨tile_cast i arg3 harg3 arg4 harg4 x1 x2 (k0_off5_eq i 1) (g := 4) (c := 1) rfl rfl (by decide) _ _ _, ?_⟩
        refine List.forall_mem_cons.2 ⟨tile_cast i arg3 harg3 arg4 harg4 x1 x2 (k0_off5_eq i 0) (g := 4) (c := 0) rfl rfl (by decide) _ _ _, ?_⟩
        refine List.forall_mem_cons.2 ⟨tile_cast i arg3 harg3 arg4 harg4 x1 x2 (k0_off4_eq i 7) (g := 3) (c := 7) rfl rfl (by decide) _ _ _, ?_⟩
        refine List.forall_mem_cons.2 ⟨tile_cast i arg3 harg3 arg4 harg4 x1 x2 (k0_off4_eq i 6) (g := 3) (c := 6) rfl rfl (by decide) _ _ _, ?_⟩
        refine List.forall_mem_cons.2 ⟨tile_cast i arg3 harg3 arg4 harg4 x1 x2 (k0_off4_eq i 5) (g := 3) (c := 5) rfl rfl (by decide) _ _ _, ?_⟩
        refine List.forall_mem_cons.2 ⟨tile_cast i arg3 harg3 arg4 harg4 x1 x2 (k0_off4_eq i 4) (g := 3) (c := 4) rfl rfl (by decide) _ _ _, ?_⟩
        refine List.forall_mem_cons.2 ⟨tile_cast i arg3 harg3 arg4 harg4 x1 x2 (k0_off4_eq i 3) (g := 3) (c := 3) rfl rfl (by decide) _ _ _, ?_⟩
        refine List.forall_mem_cons.2 ⟨tile_cast i arg3 harg3 arg4 harg4 x1 x2 (k0_off4_eq i 2) (g := 3) (c := 2) rfl rfl (by decide) _ _ _, ?_⟩
        refine List.forall_mem_cons.2 ⟨tile_cast i arg3 harg3 arg4 harg4 x1 x2 (k0_off4_eq i 1) (g := 3) (c := 1) rfl rfl (by decide) _ _ _, ?_⟩
        refine List.forall_mem_cons.2 ⟨tile_cast i arg3 harg3 arg4 harg4 x1 x2 (k0_off4_eq i 0) (g := 3) (c := 0) rfl rfl (by decide) _ _ _, ?_⟩
        refine List.forall_mem_cons.2 ⟨tile_cast i arg3 harg3 arg4 harg4 x1 x2 (k0_off3_eq i 7) (g := 2) (c := 7) rfl rfl (by decide) _ _ _, ?_⟩
        refine List.forall_mem_cons.2 ⟨tile_cast i arg3 harg3 arg4 harg4 x1 x2 (k0_off3_eq i 6) (g := 2) (c := 6) rfl rfl (by decide) _ _ _, ?_⟩
        refine List.forall_mem_cons.2 ⟨tile_cast i arg3 harg3 arg4 harg4 x1 x2 (k0_off3_eq i 5) (g := 2) (c := 5) rfl rfl (by decide) _ _ _, ?_⟩
        refine List.forall_mem_cons.2 ⟨tile_cast i arg3 harg3 arg4 harg4 x1 x2 (k0_off3_eq i 4) (g := 2) (c := 4) rfl rfl (by decide) _ _ _, ?_⟩
        refine List.forall_mem_cons.2 ⟨tile_cast i arg3 harg3 arg4 harg4 x1 x2 (k0_off3_eq i 3) (g := 2) (c := 3) rfl rfl (by decide) _ _ _, ?_⟩
        refine List.forall_mem_cons.2 ⟨tile_cast i arg3 harg3 arg4 harg4 x1 x2 (k0_off3_eq i 2) (g := 2) (c := 2) rfl rfl (by decide) _ _ _, ?_⟩
        refine List.forall_mem_cons.2 ⟨tile_cast i arg3 harg3 arg4 harg4 x1 x2 (k0_off3_eq i 1) (g := 2) (c := 1) rfl rfl (by decide) _ _ _, ?_⟩
        refine List.forall_mem_cons.2 ⟨tile_cast i arg3 harg3 arg4 harg4 x1 x2 (k0_off3_eq i 0) (g := 2) (c := 0) rfl rfl (by decide) _ _ _, ?_⟩
        refine List.forall_mem_cons.2 ⟨tile_cast i arg3 harg3 arg4 harg4 x1 x2 (k0_off2_eq i 7) (g := 1) (c := 7) rfl rfl (by decide) _ _ _, ?_⟩
        refine List.forall_mem_cons.2 ⟨tile_cast i arg3 harg3 arg4 harg4 x1 x2 (k0_off2_eq i 6) (g := 1) (c := 6) rfl rfl (by decide) _ _ _, ?_⟩
        refine List.forall_mem_cons.2 ⟨tile_cast i arg3 harg3 arg4 harg4 x1 x2 (k0_off2_eq i 5) (g := 1) (c := 5) rfl rfl (by decide) _ _ _, ?_⟩
        refine List.forall_mem_cons.2 ⟨tile_cast i arg3 harg3 arg4 harg4 x1 x2 (k0_off2_eq i 4) (g := 1) (c := 4) rfl rfl (by decide) _ _ _, ?_⟩
        refine List.forall_mem_cons.2 ⟨tile_cast i arg3 harg3 arg4 harg4 x1 x2 (k0_off2_eq i 3) (g := 1) (c := 3) rfl rfl (by decide) _ _ _, ?_⟩
        refine List.forall_mem_cons.2 ⟨tile_cast i arg3 harg3 arg4 harg4 x1 x2 (k0_off2_eq i 2) (g := 1) (c := 2) rfl rfl (by decide) _ _ _, ?_⟩
        refine List.forall_mem_cons.2 ⟨tile_cast i arg3 harg3 arg4 harg4 x1 x2 (k0_off2_eq i 1) (g := 1) (c := 1) rfl rfl (by decide) _ _ _, ?_⟩
        refine List.forall_mem_cons.2 ⟨tile_cast i arg3 harg3 arg4 harg4 x1 x2 (k0_off2_eq i 0) (g := 1) (c := 0) rfl rfl (by decide) _ _ _, ?_⟩
        refine List.forall_mem_cons.2 ⟨tile_cast i arg3 harg3 arg4 harg4 x1 x2 (k0_off1_eq i 7) (g := 0) (c := 7) rfl rfl (by decide) _ _ _, ?_⟩
        refine List.forall_mem_cons.2 ⟨tile_cast i arg3 harg3 arg4 harg4 x1 x2 (k0_off1_eq i 6) (g := 0) (c := 6) rfl rfl (by decide) _ _ _, ?_⟩
        refine List.forall_mem_cons.2 ⟨tile_cast i arg3 harg3 arg4 harg4 x1 x2 (k0_off1_eq i 5) (g := 0) (c := 5) rfl rfl (by decide) _ _ _, ?_⟩
        refine List.forall_mem_cons.2 ⟨tile_cast i arg3 harg3 arg4 harg4 x1 x2 (k0_off1_eq i 4) (g := 0) (c := 4) rfl rfl (by decide) _ _ _, ?_⟩
        refine List.forall_mem_cons.2 ⟨tile_cast i arg3 harg3 arg4 harg4 x1 x2 (k0_off1_eq i 3) (g := 0) (c := 3) rfl rfl (by decide) _ _ _, ?_⟩
        refine List.forall_mem_cons.2 ⟨tile_cast i arg3 harg3 arg4 harg4 x1 x2 (k0_off1_eq i 2) (g := 0) (c := 2) rfl rfl (by decide) _ _ _, ?_⟩
        refine List.forall_mem_cons.2 ⟨tile_cast i arg3 harg3 arg4 harg4 x1 x2 (k0_off1_eq i 1) (g := 0) (c := 1) rfl rfl (by decide) _ _ _, ?_⟩
        refine List.forall_mem_cons.2 ⟨tile_cast i arg3 harg3 arg4 harg4 x1 x2 (k0_off1_eq i 0) (g := 0) (c := 0) rfl rfl (by decide) _ _ _, ?_⟩
        exact List.forall_mem_nil _
      funext j
      unfold View.readCov
      rw [View.readAt_apply, View.read_writes_apply_of_pieces arg10.view arg10.view.junk (Wb i x1 x2) _ hG _
        (View.cover_of_tiled (fill_weights.sl.HS0_336 c i arg3 harg3 arg4 harg4 x1 x2) S128x128.size (by rfl) _)]
      refine congrArg _ (funext fun a => Fin.ext ?_)
      fin_cases a
      · show 0 + 1 * (j 0).val = (j 0).val
        omega
      · show 0 + 1 * (j 1).val = (j 1).val
        omega
    have h0 : View.readAt (Elt F) arg2.view (Rect.unit (s := S512x5376) ![0, 0] S512x5376.size inb_S512x5376_S512x5376_0_0).toLoadRect
        (harg2.unread x0) = x0 := by
      funext j
      rw [View.readAt_apply, harg2.read_unread]
      refine congrArg x0 (funext fun a => Fin.ext ?_)
      fin_cases a
      · show 0 + 1 * (j 0).val = (j 0).val
        omega
      · show 0 + 1 * (j 1).val = (j 1).val
        omega
    rw [hv, h0]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _, _; isplitr; swap; · iexact HS0
    ipureintro; rfl

end Cert.KernelIdeal.Hand

end
-- ==== Proof.Block.lean ====
module

public import proofs.«01_k».proof.Proof.Gen.KernelIdeal.Frame
public import proofs.«01_k».proof.Proof.Gen.KernelIdeal.Skeleton
public import Idealize.ShloMosaic.Lib.ValueIdx
public import Idealize.ShloMosaic.Lib.Pointwise.ShapeOpsCore
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Head `h` of a block of eight heads: its 128 columns. -/
def cols (Y : FVec F S512x1024 .f32) (h : Fin 8) : FVec F S512x128 .f32 :=
  fun y => Y (ValueIdx.ix2 (y 0) ⟨128 * h.val + (y 1).val, by have := (y 1).isLt; have := h.isLt; change _ < 128 at *; show _ < 1024; omega⟩)

/-- One head normalised: every row over the root of its mean square, times the weights, rounded to bf16. -/
def normed (v : FVec F S512x128 .f32) (w : FVec F S1x128 .f32) : FVec F S512x128 .bf16 :=
  truncf .bf16 (mulf (mulf v (broadcastTo S512x128 (rsqrt (addf (divf (shapeCast S512x1
      (multiReduction .add [1] S512 (mulf v v) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 w broadcasts_S1x128_S512x128)) bitsLt_bf16_f32

/-- The block of eight normalised heads, one after the other. -/
def outN (Y : FVec F S512x1024 .f32) (w : FVec F S1x128 .f32) : Vec F S512x1x8x128 .bf16 :=
  fun j => normed (cols Y (j 2)) w (ValueIdx.ix2 (j 0) (j 3))

/-- The block of eight heads, only rounded. -/
def outV (Y : FVec F S512x1024 .f32) : Vec F S512x1x8x128 .bf16 :=
  fun j => (truncf .bf16 (cols Y (j 2)) bitsLt_bf16_f32 : FVec F S512x128 .bf16) (ValueIdx.ix2 (j 0) (j 3))

theorem slice_cols (Y : FVec F S512x1024 .f32) (h : Fin 8) {o : ℕ} (ho : o = 128 * h.val) (hs : S512x1024.Slices ![0, o] S512x128) :
    extractStridedSlice S512x128 ![0, o] Y hs = cols Y h := by
  subst ho
  funext y
  refine extractStridedSlice_apply _ _ _ _ _ fun a => ?_
  fin_cases a
  · show (y 0).val = 0 + (y 0).val
    omega
  · rfl

/-- A pair of heads interleaved by rows is the block's rows `2 p` and `2 p + 1`. -/
theorem pair_tile (G : Vec F S512x1x8x128 .bf16) (lo hi : FVec F S512x128 .bf16) (p : Fin 4) {o : ℕ} (ho : o = 2 * p.val)
    (hlo : ∀ y : S512x128.Idx, lo y = G (ValueIdx.ix4 (y 0) 0 ⟨2 * p.val, by omega⟩ (y 1)))
    (hhi : ∀ y : S512x128.Idx, hi y = G (ValueIdx.ix4 (y 0) 0 ⟨2 * p.val + 1, by omega⟩ (y 1)))
    (inb : ∀ a, (![0, 0, o, 0] : Fin 4 → ℕ) a + S512x1x2x128.size a ≤ S512x1x8x128.size a) (x : S512x1x2x128.Idx) :
    interleaveRows S512x1x2x128 (shapeCast S512x1x1x128 lo shapeCasts_S512x128_S512x1x1x128)
        (shapeCast S512x1x1x128 hi shapeCasts_S512x128_S512x1x1x128) bitcasts_S512x1x2x128_w16_S512x1x1x128_w32 x
      = G ((Rect.unit (s := S512x1x8x128) ![0, 0, o, 0] S512x1x2x128.size inb).emb x) := by
  subst ho
  have key : ∀ (v : FVec F S512x128 .bf16) (j : S512x1x1x128.Idx), shapeCast S512x1x1x128 v shapeCasts_S512x128_S512x1x1x128 j
      = v (ValueIdx.ix2 (j 0) (j 3)) := fun v j => by
    refine shapeCast_apply _ _ _ _ ?_
    rw [Shape.rowMajor_val_two, Shape.rowMajor_val_four]
    have h1 : (j 1).val = 0 := by have := (j 1).isLt; change _ < 1 at this; omega
    have h2 : (j 2).val = 0 := by have := (j 2).isLt; change _ < 1 at this; omega
    show (j 0).val * 128 + (j 3).val = (((j 0).val * 1 + (j 1).val) * 1 + (j 2).val) * 128 + (j 3).val
    omega
  have hx1 : (x 1).val = 0 := by have := (x 1).isLt; change _ < 1 at this; omega
  have hx2 : (x 2).val < 2 := (x 2).isLt
  rw [interleaveRows_apply]
  have hrow : S512x1x2x128.row x = (x 2).val := rfl
  rw [hrow]
  by_cases he : (x 2).val % 2 = 0
  · rw [if_pos he, key, hlo]
    have he' : (x 2).val = 0 := by omega
    refine congrArg G (funext fun a => Fin.ext ?_)
    fin_cases a
    · show (x 0).val = 0 + 1 * (x 0).val
      omega
    · show 0 = 0 + 1 * (x 1).val
      omega
    · show 2 * p.val = 2 * p.val + 1 * (x 2).val
      omega
    · show (x 3).val = 0 + 1 * (x 3).val
      omega
  · rw [if_neg he, key, hhi]
    have he' : (x 2).val = 1 := by omega
    refine congrArg G (funext fun a => Fin.ext ?_)
    fin_cases a
    · show (x 0).val = 0 + 1 * (x 0).val
      omega
    · show 0 = 0 + 1 * (x 1).val
      omega
    · show 2 * p.val + 1 = 2 * p.val + 1 * (x 2).val
      omega
    · show (x 3).val = 0 + 1 * (x 3).val
      omega

theorem outN_row (Y : FVec F S512x1024 .f32) (w : FVec F S1x128 .f32) (h : Fin 8) (y : S512x128.Idx) :
    normed (cols Y h) w y = outN Y w (ValueIdx.ix4 (y 0) 0 h (y 1)) :=
  congrArg _ (ValueIdx.eq_ix2 y)

theorem outV_row (Y : FVec F S512x1024 .f32) (h : Fin 8) (y : S512x128.Idx) :
    (truncf .bf16 (cols Y h) bitsLt_bf16_f32 : FVec F S512x128 .bf16) y = outV Y (ValueIdx.ix4 (y 0) 0 h (y 1)) :=
  congrArg _ (ValueIdx.eq_ix2 y)

end Cert.KernelIdeal.Hand

end
-- ==== Proof.Tail.lean ====
module

public import proofs.«01_k».proof.Proof.Gen.KernelIdeal.Frame
public import proofs.«01_k».proof.Proof.Gen.KernelIdeal.Skeleton
public import proofs.«01_k».proof.Proof.Block
public import Idealize.ShloMosaic.Lib.Pointwise.ShapeOpsCore
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option synthInstance.maxSize 4096

/-- Two normalised heads, interleaved and stored as pair `p`, are the block's rows there. -/
theorem pairN (Y : FVec F S512x1024 .f32) (w w' : FVec F S1x128 .f32) (hw : w' = w) (p : Fin 4) {o a b : ℕ} (ho : o = 2 * p.val)
    (ha : a = 128 * (2 * p.val)) (hb : b = 128 * (2 * p.val + 1))
    (hsa : S512x1024.Slices ![0, a] S512x128) (hsb : S512x1024.Slices ![0, b] S512x128)
    (inb : ∀ a, (![0, 0, o, 0] : Fin 4 → ℕ) a + S512x1x2x128.size a ≤ S512x1x8x128.size a) (x : S512x1x2x128.Idx) :
    interleaveRows S512x1x2x128 (shapeCast S512x1x1x128 (normed (extractStridedSlice S512x128 ![0, a] Y hsa) w') shapeCasts_S512x128_S512x1x1x128)
        (shapeCast S512x1x1x128 (normed (extractStridedSlice S512x128 ![0, b] Y hsb) w') shapeCasts_S512x128_S512x1x1x128)
        bitcasts_S512x1x2x128_w16_S512x1x1x128_w32 x
      = outN Y w ((Rect.unit (s := S512x1x8x128) ![0, 0, o, 0] S512x1x2x128.size inb).emb x) := by
  subst hw
  rw [slice_cols Y ⟨2 * p.val, by omega⟩ ha hsa, slice_cols Y ⟨2 * p.val + 1, by omega⟩ hb hsb]
  exact pair_tile (outN Y w') _ _ p ho (fun y => outN_row Y w' _ y) (fun y => outN_row Y w' _ y) inb x

/-- Two rounded heads, interleaved and stored as pair `p`, are the block's rows there. -/
theorem pairV (Y : FVec F S512x1024 .f32) (p : Fin 4) {o a b : ℕ} (ho : o = 2 * p.val)
    (ha : a = 128 * (2 * p.val)) (hb : b = 128 * (2 * p.val + 1))
    (hsa : S512x1024.Slices ![0, a] S512x128) (hsb : S512x1024.Slices ![0, b] S512x128)
    (inb : ∀ a, (![0, 0, o, 0] : Fin 4 → ℕ) a + S512x1x2x128.size a ≤ S512x1x8x128.size a) (x : S512x1x2x128.Idx) :
    interleaveRows S512x1x2x128 (shapeCast S512x1x1x128 (truncf .bf16 (extractStridedSlice S512x128 ![0, a] Y hsa) bitsLt_bf16_f32) shapeCasts_S512x128_S512x1x1x128)
        (shapeCast S512x1x1x128 (truncf .bf16 (extractStridedSlice S512x128 ![0, b] Y hsb) bitsLt_bf16_f32) shapeCasts_S512x128_S512x1x1x128)
        bitcasts_S512x1x2x128_w16_S512x1x1x128_w32 x
      = outV Y ((Rect.unit (s := S512x1x8x128) ![0, 0, o, 0] S512x1x2x128.size inb).emb x) := by
  rw [slice_cols Y ⟨2 * p.val, by omega⟩ ha hsa, slice_cols Y ⟨2 * p.val + 1, by omega⟩ hb hsb]
  exact pair_tile (outV Y) _ _ p ho (fun y => outV_row Y _ y) (fun y => outV_row Y _ y) inb x

/-- A block written in pairs of heads, each agreeing with `G`, reads `G`. -/
theorem read_pairs (m : Memref sig .tc .vmem S512x1x8x128 .bf16) (f : m.view.ty.Contents (Elt F)) (G : Vec F S512x1x8x128 .bf16)
    (L : List (View.Piece (Elt F) S512x1x8x128 .bf16)) (hG : ∀ p ∈ L, ∀ x : p.1.shape.Idx, p.2 x = G (p.1.emb x))
    (ht : View.Piece.tiled L S512x1x2x128.size = true) : View.read (Elt F) m.view (m.view.writes (Elt F) f L) = G :=
  funext fun y => View.read_writes_apply_of_pieces m.view f G L hG y (View.cover_of_tiled L S512x1x2x128.size ht y)

/-- What the body does after the weights are dequantised: the product, and the case of the column block — query heads,
    key heads or value heads — stored into its own output. -/
def tail (i : grid0.Coords) (arg2 : Memref sig .tc .vmem S512x5376 .bf16) (harg2 : arg2.IsWhole) (arg3 : Memref sig .tc .vmem S5376x1024 .fp8e4m3) (harg3 : arg3.IsWhole) (arg4 : Memref sig .tc .smem S42x64 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x1x8x128 .bf16) (harg7 : arg7.IsWhole) (arg8 : Memref sig .tc .vmem S512x1x8x128 .bf16) (harg8 : arg8.IsWhole) (arg9 : Memref sig .tc .vmem S512x1x8x128 .bf16) (harg9 : arg9.IsWhole) (arg10 : Memref sig .tc .vmem S5376x1024 .bf16) (harg10 : arg10.IsWhole) (v4032 : Vec F S512x5376 .bf16) (v4033 : Vec F S5376x1024 .bf16) :
    Prog (TpuEff nD τ sig (Elt F) Λ₀ .tc) PUnit := do
  if k0_h1 : k0_cond1 i = 1#1 then do
    let ⟨v4047, v4088, v4089⟩ : Σ' (v4047 : FVec F S1x128 .f32) (v4088 : FVec F S512x128 .f32), FVec F S512x128 .f32 ← k0_part1 i arg2 harg2 arg3 harg3 arg4 harg4 arg5 harg5 arg6 harg6 arg7 harg7 arg8 harg8 arg9 harg9 arg10 harg10 (k0_pay1 v4032 v4033)
    let ⟨v4134_lo, v4134_hi⟩ : Σ' (v4134_lo : FVec F S512x128 .bf16), FVec F S512x128 .bf16 ← k0_part2 i arg2 harg2 arg3 harg3 arg4 harg4 arg5 harg5 arg6 harg6 arg7 harg7 arg8 harg8 arg9 harg9 arg10 harg10 (k0_pay1 v4032 v4033) v4047 v4088 v4089
    let v4137_raw : Vec F S512x1x2x128 .bf16 ← Prog.lift (.load arg7 (Rect.unit (s := S512x1x8x128) ![0, 0, 4, 0] S512x1x2x128.size inb_S512x1x8x128_S512x1x2x128_0_0_4_0).toLoadRect (View.loadsAt_vmem h_S512x1x2x128))
    Prog.lift (.store arg7 (Rect.unit (s := S512x1x8x128) ![0, 0, 4, 0] S512x1x2x128.size inb_S512x1x8x128_S512x1x2x128_0_0_4_0) (k0_pay2 v4134_lo v4134_hi) Finset.univ (View.stores_vmem h_S512x1x2x128 (harg7.storeExact_slice rfl _ packedbf16_S512x1x8x128_S512x1x2x128_0_0_4_0) (fun _ => rfl)) (.inl rfl))
    let v4167_raw : Vec F S512x1x2x128 .bf16 ← Prog.lift (.load arg7 (Rect.unit (s := S512x1x8x128) ![0, 0, 6, 0] S512x1x2x128.size inb_S512x1x8x128_S512x1x2x128_0_0_6_0).toLoadRect (View.loadsAt_vmem h_S512x1x2x128))
    Prog.lift (.store arg7 (Rect.unit (s := S512x1x8x128) ![0, 0, 6, 0] S512x1x2x128.size inb_S512x1x8x128_S512x1x2x128_0_0_6_0) (k0_pay3 v4032 v4033 v4047) Finset.univ (View.stores_vmem h_S512x1x2x128 (harg7.storeExact_slice rfl _ packedbf16_S512x1x8x128_S512x1x2x128_0_0_6_0) (fun _ => rfl)) (.inl rfl))
    pure ⟨⟩
  else do
    pure ⟨⟩
  if k0_h2 : k0_cond2 i = 1#1 then do
    let ⟨v4047, v4088, v4089⟩ : Σ' (v4047 : FVec F S1x128 .f32) (v4088 : FVec F S512x128 .f32), FVec F S512x128 .f32 ← k0_part3 i arg2 harg2 arg3 harg3 arg4 harg4 arg5 harg5 arg6 harg6 arg7 harg7 arg8 harg8 arg9 harg9 arg10 harg10 (k0_pay1 v4032 v4033)
    let ⟨v4134_lo, v4134_hi⟩ : Σ' (v4134_lo : FVec F S512x128 .bf16), FVec F S512x128 .bf16 ← k0_part4 i arg2 harg2 arg3 harg3 arg4 harg4 arg5 harg5 arg6 harg6 arg7 harg7 arg8 harg8 arg9 harg9 arg10 harg10 (k0_pay1 v4032 v4033) v4047 v4088 v4089
    let v4137_raw : Vec F S512x1x2x128 .bf16 ← Prog.lift (.load arg8 (Rect.unit (s := S512x1x8x128) ![0, 0, 4, 0] S512x1x2x128.size inb_S512x1x8x128_S512x1x2x128_0_0_4_0).toLoadRect (View.loadsAt_vmem h_S512x1x2x128))
    Prog.lift (.store arg8 (Rect.unit (s := S512x1x8x128) ![0, 0, 4, 0] S512x1x2x128.size inb_S512x1x8x128_S512x1x2x128_0_0_4_0) (k0_pay4 v4134_lo v4134_hi) Finset.univ (View.stores_vmem h_S512x1x2x128 (harg8.storeExact_slice rfl _ packedbf16_S512x1x8x128_S512x1x2x128_0_0_4_0) (fun _ => rfl)) (.inl rfl))
    let v4167_raw : Vec F S512x1x2x128 .bf16 ← Prog.lift (.load arg8 (Rect.unit (s := S512x1x8x128) ![0, 0, 6, 0] S512x1x2x128.size inb_S512x1x8x128_S512x1x2x128_0_0_6_0).toLoadRect (View.loadsAt_vmem h_S512x1x2x128))
    Prog.lift (.store arg8 (Rect.unit (s := S512x1x8x128) ![0, 0, 6, 0] S512x1x2x128.size inb_S512x1x8x128_S512x1x2x128_0_0_6_0) (k0_pay5 v4032 v4033 v4047) Finset.univ (View.stores_vmem h_S512x1x2x128 (harg8.storeExact_slice rfl _ packedbf16_S512x1x8x128_S512x1x2x128_0_0_6_0) (fun _ => rfl)) (.inl rfl))
    pure ⟨⟩
  else do
    pure ⟨⟩
  if k0_h3 : k0_cond3 i = 1#1 then do
    let v4051_raw : Vec F S512x1x2x128 .bf16 ← Prog.lift (.load arg9 (Rect.unit (s := S512x1x8x128) ![0, 0, 0, 0] S512x1x2x128.size inb_S512x1x8x128_S512x1x2x128_0_0_0_0).toLoadRect (View.loadsAt_vmem h_S512x1x2x128))
    Prog.lift (.store arg9 (Rect.unit (s := S512x1x8x128) ![0, 0, 0, 0] S512x1x2x128.size inb_S512x1x8x128_S512x1x2x128_0_0_0_0) (k0_pay6 v4032 v4033) Finset.univ (View.stores_vmem h_S512x1x2x128 (harg9.storeExact_slice rfl _ packedbf16_S512x1x8x128_S512x1x2x128_0_0_0_0) (fun _ => rfl)) (.inl rfl))
    let v4057_raw : Vec F S512x1x2x128 .bf16 ← Prog.lift (.load arg9 (Rect.unit (s := S512x1x8x128) ![0, 0, 2, 0] S512x1x2x128.size inb_S512x1x8x128_S512x1x2x128_0_0_2_0).toLoadRect (View.loadsAt_vmem h_S512x1x2x128))
    Prog.lift (.store arg9 (Rect.unit (s := S512x1x8x128) ![0, 0, 2, 0] S512x1x2x128.size inb_S512x1x8x128_S512x1x2x128_0_0_2_0) (k0_pay7 v4032 v4033) Finset.univ (View.stores_vmem h_S512x1x2x128 (harg9.storeExact_slice rfl _ packedbf16_S512x1x8x128_S512x1x2x128_0_0_2_0) (fun _ => rfl)) (.inl rfl))
    let v4063_raw : Vec F S512x1x2x128 .bf16 ← Prog.lift (.load arg9 (Rect.unit (s := S512x1x8x128) ![0, 0, 4, 0] S512x1x2x128.size inb_S512x1x8x128_S512x1x2x128_0_0_4_0).toLoadRect (View.loadsAt_vmem h_S512x1x2x128))
    Prog.lift (.store arg9 (Rect.unit (s := S512x1x8x128) ![0, 0, 4, 0] S512x1x2x128.size inb_S512x1x8x128_S512x1x2x128_0_0_4_0) (k0_pay8 v4032 v4033) Finset.univ (View.stores_vmem h_S512x1x2x128 (harg9.storeExact_slice rfl _ packedbf16_S512x1x8x128_S512x1x2x128_0_0_4_0) (fun _ => rfl)) (.inl rfl))
    let v4069_raw : Vec F S512x1x2x128 .bf16 ← Prog.lift (.load arg9 (Rect.unit (s := S512x1x8x128) ![0, 0, 6, 0] S512x1x2x128.size inb_S512x1x8x128_S512x1x2x128_0_0_6_0).toLoadRect (View.loadsAt_vmem h_S512x1x2x128))
    Prog.lift (.store arg9 (Rect.unit (s := S512x1x8x128) ![0, 0, 6, 0] S512x1x2x128.size inb_S512x1x8x128_S512x1x2x128_0_0_6_0) (k0_pay9 v4032 v4033) Finset.univ (View.stores_vmem h_S512x1x2x128 (harg9.storeExact_slice rfl _ packedbf16_S512x1x8x128_S512x1x2x128_0_0_6_0) (fun _ => rfl)) (.inl rfl))
    pure ⟨⟩
  else do
    pure ⟨⟩
  pure ⟨⟩

set_option maxRecDepth 65536 in
/-- The body is the dequantisation followed by `tail`. -/
theorem body_eq (i : grid0.Coords) (arg2 : Memref sig .tc .vmem S512x5376 .bf16) (harg2 : arg2.IsWhole) (arg3 : Memref sig .tc .vmem S5376x1024 .fp8e4m3) (harg3 : arg3.IsWhole) (arg4 : Memref sig .tc .smem S42x64 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x1x8x128 .bf16) (harg7 : arg7.IsWhole) (arg8 : Memref sig .tc .vmem S512x1x8x128 .bf16) (harg8 : arg8.IsWhole) (arg9 : Memref sig .tc .vmem S512x1x8x128 .bf16) (harg9 : arg9.IsWhole) (arg10 : Memref sig .tc .vmem S5376x1024 .bf16) (harg10 : arg10.IsWhole) :
    cc0_proj (F := F) i arg2 harg2 arg3 harg3 arg4 harg4 arg5 harg5 arg6 harg6 arg7 harg7 arg8 harg8 arg9 harg9 arg10 harg10 = (do
        let ⟨arg1, v2156⟩ ← k0_part117 i arg2 harg2 arg3 harg3 arg4 harg4 arg5 harg5 arg6 harg6 arg7 harg7 arg8 harg8 arg9 harg9 arg10 harg10
        k0_part118 i arg2 harg2 arg3 harg3 arg4 harg4 arg5 harg5 arg6 harg6 arg7 harg7 arg8 harg8 arg9 harg9 arg10 harg10 arg1 v2156) >>= fun y => tail i arg2 harg2 arg3 harg3 arg4 harg4 arg5 harg5 arg6 harg6 arg7 harg7 arg8 harg8 arg9 harg9 arg10 harg10 y.1 y.2 := by
  rw [Prog.bind_assoc, cc0_proj_eq_skeleton]
  rfl

/-- A whole load of a whole buffer reads its contents. -/
theorem readAt_S1x128 (m : Memref sig .tc .vmem S1x128 .f32) (hm : m.IsWhole) (x : Vec F S1x128 .f32) :
    View.readAt (Elt F) m.view (Rect.unit (s := S1x128) ![0, 0] S1x128.size inb_S1x128_S1x128_0_0).toLoadRect (hm.unread x) = x := by
  funext j
  rw [View.readAt_apply, hm.read_unread]
  refine congrArg x (funext fun a => Fin.ext ?_)
  fin_cases a
  · show 0 + 1 * (j 0).val = (j 0).val
    omega
  · show 0 + 1 * (j 1).val = (j 1).val
    omega

set_option maxHeartbeats 4000000 in
/-- The query case: the first output gets the eight normalised heads. -/
theorem tail_q (c : Dev nD) (i : grid0.Coords) (arg2 : Memref sig .tc .vmem S512x5376 .bf16) (harg2 : arg2.IsWhole) (arg3 : Memref sig .tc .vmem S5376x1024 .fp8e4m3) (harg3 : arg3.IsWhole) (arg4 : Memref sig .tc .smem S42x64 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x1x8x128 .bf16) (harg7 : arg7.IsWhole) (arg8 : Memref sig .tc .vmem S512x1x8x128 .bf16) (harg8 : arg8.IsWhole) (arg9 : Memref sig .tc .vmem S512x1x8x128 .bf16) (harg9 : arg9.IsWhole) (arg10 : Memref sig .tc .vmem S5376x1024 .bf16) (harg10 : arg10.IsWhole) (v4032 : Vec F S512x5376 .bf16) (v4033 : Vec F S5376x1024 .bf16) (x3 : Vec F S1x128 .f32)
    (hc0 : k0_cond1 i = 1#1) (hc1 : ¬ k0_cond2 i = 1#1) (hc2 : ¬ k0_cond3 i = 1#1) :
      ∀ (E : Set ℕ) (K : PUnit → sProp 𝕄),
        iprop(owns (c : Thread nD τ) arg5 fullShare x3 ∗ (∃ d, owns (c : Thread nD τ) arg7 fullShare d)
            ∗ (iprop(owns (c : Thread nD τ) arg5 fullShare x3 ∗ owns (c : Thread nD τ) arg7 fullShare (outN (k0_pay1 v4032 v4033) x3)) -∗ K ⟨⟩))
          ⊢ wp frame (wpE (defs₀ (F := F)) Variants.none c none) E (tail i arg2 harg2 arg3 harg3 arg4 harg4 arg5 harg5 arg6 harg6 arg7 harg7 arg8 harg8 arg9 harg9 arg10 harg10 v4032 v4033) K := by
    intro E K
    unfold tail
    unfold owns
    iintro ⟨⟨%f5, %hf5, H5⟩, ⟨%d7, %f7, -, H7⟩, Hk⟩
    obtain rfl := harg5.eq_unread hf5
    sl_exec (disch := first | sl_exact hc0 | sl_exact hc1 | sl_exact hc2)
    sl_step
    have hw : shapeCast S1x128 (View.readAt (Elt F) arg5.view (Rect.unit (s := S1x128) ![0, 0] S1x128.size inb_S1x128_S1x128_0_0).toLoadRect (harg5.unread x3))
        shapeCasts_S1x128_S1x128 = x3 := by
      rw [readAt_S1x128]
      exact shapeCast_self (s := S1x128) _ _
    iapply Hk
    isplitl [H5]
    · iexists _; isplitr; · ipureintro; exact harg5.read_unread _
      iexact H5
    iexists _; isplitr; swap; · iexact H7
    ipureintro
    refine read_pairs arg7 f7 (outN (k0_pay1 v4032 v4033) x3) _ ?_ (by rfl)
    refine List.forall_mem_cons.2 ⟨pairN (k0_pay1 v4032 v4033) x3 _ hw 3 (o := 6) (a := 768) (b := 896) rfl rfl rfl slices_S512x1024_o0_768_S512x128 slices_S512x1024_o0_896_S512x128 inb_S512x1x8x128_S512x1x2x128_0_0_6_0, ?_⟩
    refine List.forall_mem_cons.2 ⟨pairN (k0_pay1 v4032 v4033) x3 _ hw 2 (o := 4) (a := 512) (b := 640) rfl rfl rfl slices_S512x1024_o0_512_S512x128 slices_S512x1024_o0_640_S512x128 inb_S512x1x8x128_S512x1x2x128_0_0_4_0, ?_⟩
    refine List.forall_mem_cons.2 ⟨pairN (k0_pay1 v4032 v4033) x3 _ hw 1 (o := 2) (a := 256) (b := 384) rfl rfl rfl slices_S512x1024_o0_256_S512x128 slices_S512x1024_o0_384_S512x128 inb_S512x1x8x128_S512x1x2x128_0_0_2_0, ?_⟩
    refine List.forall_mem_cons.2 ⟨pairN (k0_pay1 v4032 v4033) x3 _ hw 0 (o := 0) (a := 0) (b := 128) rfl rfl rfl slices_S512x1024_o0_0_S512x128 slices_S512x1024_o0_128_S512x128 inb_S512x1x8x128_S512x1x2x128_0_0_0_0, ?_⟩
    exact List.forall_mem_nil _

set_option maxHeartbeats 4000000 in
/-- The key case: the second output gets the eight normalised heads. -/
theorem tail_k (c : Dev nD) (i : grid0.Coords) (arg2 : Memref sig .tc .vmem S512x5376 .bf16) (harg2 : arg2.IsWhole) (arg3 : Memref sig .tc .vmem S5376x1024 .fp8e4m3) (harg3 : arg3.IsWhole) (arg4 : Memref sig .tc .smem S42x64 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x1x8x128 .bf16) (harg7 : arg7.IsWhole) (arg8 : Memref sig .tc .vmem S512x1x8x128 .bf16) (harg8 : arg8.IsWhole) (arg9 : Memref sig .tc .vmem S512x1x8x128 .bf16) (harg9 : arg9.IsWhole) (arg10 : Memref sig .tc .vmem S5376x1024 .bf16) (harg10 : arg10.IsWhole) (v4032 : Vec F S512x5376 .bf16) (v4033 : Vec F S5376x1024 .bf16) (x4 : Vec F S1x128 .f32)
    (hc0 : ¬ k0_cond1 i = 1#1) (hc1 : k0_cond2 i = 1#1) (hc2 : ¬ k0_cond3 i = 1#1) :
      ∀ (E : Set ℕ) (K : PUnit → sProp 𝕄),
        iprop(owns (c : Thread nD τ) arg6 fullShare x4 ∗ (∃ d, owns (c : Thread nD τ) arg8 fullShare d)
            ∗ (iprop(owns (c : Thread nD τ) arg6 fullShare x4 ∗ owns (c : Thread nD τ) arg8 fullShare (outN (k0_pay1 v4032 v4033) x4)) -∗ K ⟨⟩))
          ⊢ wp frame (wpE (defs₀ (F := F)) Variants.none c none) E (tail i arg2 harg2 arg3 harg3 arg4 harg4 arg5 harg5 arg6 harg6 arg7 harg7 arg8 harg8 arg9 harg9 arg10 harg10 v4032 v4033) K := by
    intro E K
    unfold tail
    unfold owns
    iintro ⟨⟨%f5, %hf5, H5⟩, ⟨%d7, %f7, -, H7⟩, Hk⟩
    obtain rfl := harg6.eq_unread hf5
    sl_exec (disch := first | sl_exact hc0 | sl_exact hc1 | sl_exact hc2)
    sl_step
    have hw : shapeCast S1x128 (View.readAt (Elt F) arg6.view (Rect.unit (s := S1x128) ![0, 0] S1x128.size inb_S1x128_S1x128_0_0).toLoadRect (harg6.unread x4))
        shapeCasts_S1x128_S1x128 = x4 := by
      rw [readAt_S1x128]
      exact shapeCast_self (s := S1x128) _ _
    iapply Hk
    isplitl [H5]
    · iexists _; isplitr; · ipureintro; exact harg6.read_unread _
      iexact H5
    iexists _; isplitr; swap; · iexact H7
    ipureintro
    refine read_pairs arg8 f7 (outN (k0_pay1 v4032 v4033) x4) _ ?_ (by rfl)
    refine List.forall_mem_cons.2 ⟨pairN (k0_pay1 v4032 v4033) x4 _ hw 3 (o := 6) (a := 768) (b := 896) rfl rfl rfl slices_S512x1024_o0_768_S512x128 slices_S512x1024_o0_896_S512x128 inb_S512x1x8x128_S512x1x2x128_0_0_6_0, ?_⟩
    refine List.forall_mem_cons.2 ⟨pairN (k0_pay1 v4032 v4033) x4 _ hw 2 (o := 4) (a := 512) (b := 640) rfl rfl rfl slices_S512x1024_o0_512_S512x128 slices_S512x1024_o0_640_S512x128 inb_S512x1x8x128_S512x1x2x128_0_0_4_0, ?_⟩
    refine List.forall_mem_cons.2 ⟨pairN (k0_pay1 v4032 v4033) x4 _ hw 1 (o := 2) (a := 256) (b := 384) rfl rfl rfl slices_S512x1024_o0_256_S512x128 slices_S512x1024_o0_384_S512x128 inb_S512x1x8x128_S512x1x2x128_0_0_2_0, ?_⟩
    refine List.forall_mem_cons.2 ⟨pairN (k0_pay1 v4032 v4033) x4 _ hw 0 (o := 0) (a := 0) (b := 128) rfl rfl rfl slices_S512x1024_o0_0_S512x128 slices_S512x1024_o0_128_S512x128 inb_S512x1x8x128_S512x1x2x128_0_0_0_0, ?_⟩
    exact List.forall_mem_nil _

set_option maxHeartbeats 4000000 in
/-- The value case: the third output gets the eight heads, rounded. -/
theorem tail_v (c : Dev nD) (i : grid0.Coords) (arg2 : Memref sig .tc .vmem S512x5376 .bf16) (harg2 : arg2.IsWhole) (arg3 : Memref sig .tc .vmem S5376x1024 .fp8e4m3) (harg3 : arg3.IsWhole) (arg4 : Memref sig .tc .smem S42x64 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x1x8x128 .bf16) (harg7 : arg7.IsWhole) (arg8 : Memref sig .tc .vmem S512x1x8x128 .bf16) (harg8 : arg8.IsWhole) (arg9 : Memref sig .tc .vmem S512x1x8x128 .bf16) (harg9 : arg9.IsWhole) (arg10 : Memref sig .tc .vmem S5376x1024 .bf16) (harg10 : arg10.IsWhole) (v4032 : Vec F S512x5376 .bf16) (v4033 : Vec F S5376x1024 .bf16)
    (hc0 : ¬ k0_cond1 i = 1#1) (hc1 : ¬ k0_cond2 i = 1#1) (hc2 : k0_cond3 i = 1#1) :
      ∀ (E : Set ℕ) (K : PUnit → sProp 𝕄),
        iprop((∃ d, owns (c : Thread nD τ) arg9 fullShare d)
            ∗ (iprop(owns (c : Thread nD τ) arg9 fullShare (outV (k0_pay1 v4032 v4033))) -∗ K ⟨⟩))
          ⊢ wp frame (wpE (defs₀ (F := F)) Variants.none c none) E (tail i arg2 harg2 arg3 harg3 arg4 harg4 arg5 harg5 arg6 harg6 arg7 harg7 arg8 harg8 arg9 harg9 arg10 harg10 v4032 v4033) K := by
    intro E K
    unfold tail
    unfold owns
    iintro ⟨⟨%d7, %f7, -, H7⟩, Hk⟩
    sl_exec (disch := first | sl_exact hc0 | sl_exact hc1 | sl_exact hc2)
    sl_step
    iapply Hk
    iexists _; isplitr; swap; · iexact H7
    ipureintro
    refine read_pairs arg9 f7 (outV (k0_pay1 v4032 v4033)) _ ?_ (by rfl)
    refine List.forall_mem_cons.2 ⟨pairV (k0_pay1 v4032 v4033) 3 (o := 6) (a := 768) (b := 896) rfl rfl rfl slices_S512x1024_o0_768_S512x128 slices_S512x1024_o0_896_S512x128 inb_S512x1x8x128_S512x1x2x128_0_0_6_0, ?_⟩
    refine List.forall_mem_cons.2 ⟨pairV (k0_pay1 v4032 v4033) 2 (o := 4) (a := 512) (b := 640) rfl rfl rfl slices_S512x1024_o0_512_S512x128 slices_S512x1024_o0_640_S512x128 inb_S512x1x8x128_S512x1x2x128_0_0_4_0, ?_⟩
    refine List.forall_mem_cons.2 ⟨pairV (k0_pay1 v4032 v4033) 1 (o := 2) (a := 256) (b := 384) rfl rfl rfl slices_S512x1024_o0_256_S512x128 slices_S512x1024_o0_384_S512x128 inb_S512x1x8x128_S512x1x2x128_0_0_2_0, ?_⟩
    refine List.forall_mem_cons.2 ⟨pairV (k0_pay1 v4032 v4033) 0 (o := 0) (a := 0) (b := 128) rfl rfl rfl slices_S512x1024_o0_0_S512x128 slices_S512x1024_o0_128_S512x128 inb_S512x1x8x128_S512x1x2x128_0_0_0_0, ?_⟩
    exact List.forall_mem_nil _

end Cert.KernelIdeal.Hand

end
-- ==== Proof.Body.lean ====
module

public import proofs.«01_k».proof.Proof.Prefix
public import proofs.«01_k».proof.Proof.Tail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel's body as a whole, in the three cases of its grid point: a block of queries, of keys, of values. -/

/-- A block of queries: the body leaves the inputs as they were, the scratch at something and the block at its value. -/
theorem body_q (c : Dev nD) (i : grid0.Coords) (arg2 : Memref sig .tc .vmem S512x5376 .bf16) (harg2 : arg2.IsWhole) (arg3 : Memref sig .tc .vmem S5376x1024 .fp8e4m3) (harg3 : arg3.IsWhole) (arg4 : Memref sig .tc .smem S42x64 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x1x8x128 .bf16) (harg7 : arg7.IsWhole) (arg8 : Memref sig .tc .vmem S512x1x8x128 .bf16) (harg8 : arg8.IsWhole) (arg9 : Memref sig .tc .vmem S512x1x8x128 .bf16) (harg9 : arg9.IsWhole) (arg10 : Memref sig .tc .vmem S5376x1024 .bf16) (harg10 : arg10.IsWhole)
    (x0 : Vec F S512x5376 .bf16) (x1 : Vec F S5376x1024 .fp8e4m3) (x2 : Vec F S42x64 .f32) (x3 : Vec F S1x128 .f32)
    (hc0 : k0_cond1 i = 1#1) (hc1 : ¬ k0_cond2 i = 1#1) (hc2 : ¬ k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare (outN (k0_pay1 x0 (Wb i x1 x2)) x3) ∗ (∃ d, owns (c : Thread nD τ) arg10 fullShare d)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10) K := by
  rw [body_eq, wp_bind]
  iintro ⟨H0, H1, H2, HW, HO, HS, Hk⟩
  iapply (fill_weights c i _ _ _ _ _ _ _ _ _ _ _ _ _ _ _ _ _ _ x0 x1 x2 E _)
  isplitl [H0]; · iexact H0
  isplitl [H1]; · iexact H1
  isplitl [H2]; · iexact H2
  isplitl [HS]; · iexact HS
  iintro ⟨H0, H1, H2, HS⟩
  iapply (tail_q c i _ _ _ _ _ _ _ _ _ _ _ _ _ _ _ _ _ _ x0 (Wb i x1 x2) x3 hc0 hc1 hc2 E _)
  isplitl [HW]; · iexact HW
  isplitl [HO]; · iexact HO
  iintro ⟨HW, HO⟩
  iapply Hk
  isplitl [H0]; · iexact H0
  isplitl [H1]; · iexact H1
  isplitl [H2]; · iexact H2
  isplitl [HW]; · iexact HW
  isplitl [HO]; · iexact HO
  iexact HS

/-- A block of keys: the body leaves the inputs as they were, the scratch at something and the block at its value. -/
theorem body_k (c : Dev nD) (i : grid0.Coords) (arg2 : Memref sig .tc .vmem S512x5376 .bf16) (harg2 : arg2.IsWhole) (arg3 : Memref sig .tc .vmem S5376x1024 .fp8e4m3) (harg3 : arg3.IsWhole) (arg4 : Memref sig .tc .smem S42x64 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x1x8x128 .bf16) (harg7 : arg7.IsWhole) (arg8 : Memref sig .tc .vmem S512x1x8x128 .bf16) (harg8 : arg8.IsWhole) (arg9 : Memref sig .tc .vmem S512x1x8x128 .bf16) (harg9 : arg9.IsWhole) (arg10 : Memref sig .tc .vmem S5376x1024 .bf16) (harg10 : arg10.IsWhole)
    (x0 : Vec F S512x5376 .bf16) (x1 : Vec F S5376x1024 .fp8e4m3) (x2 : Vec F S42x64 .f32) (x4 : Vec F S1x128 .f32)
    (hc0 : ¬ k0_cond1 i = 1#1) (hc1 : k0_cond2 i = 1#1) (hc2 : ¬ k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg6 fullShare x4 ∗ (∃ d, owns (c : Thread nD τ) arg8 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg6 fullShare x4 ∗ owns (c : Thread nD τ) arg8 fullShare (outN (k0_pay1 x0 (Wb i x1 x2)) x4) ∗ (∃ d, owns (c : Thread nD τ) arg10 fullShare d)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10) K := by
  rw [body_eq, wp_bind]
  iintro ⟨H0, H1, H2, HW, HO, HS, Hk⟩
  iapply (fill_weights c i _ _ _ _ _ _ _ _ _ _ _ _ _ _ _ _ _ _ x0 x1 x2 E _)
  isplitl [H0]; · iexact H0
  isplitl [H1]; · iexact H1
  isplitl [H2]; · iexact H2
  isplitl [HS]; · iexact HS
  iintro ⟨H0, H1, H2, HS⟩
  iapply (tail_k c i _ _ _ _ _ _ _ _ _ _ _ _ _ _ _ _ _ _ x0 (Wb i x1 x2) x4 hc0 hc1 hc2 E _)
  isplitl [HW]; · iexact HW
  isplitl [HO]; · iexact HO
  iintro ⟨HW, HO⟩
  iapply Hk
  isplitl [H0]; · iexact H0
  isplitl [H1]; · iexact H1
  isplitl [H2]; · iexact H2
  isplitl [HW]; · iexact HW
  isplitl [HO]; · iexact HO
  iexact HS

/-- A block of values: the body leaves the inputs as they were, the scratch at something and the block at its value. -/
theorem body_v (c : Dev nD) (i : grid0.Coords) (arg2 : Memref sig .tc .vmem S512x5376 .bf16) (harg2 : arg2.IsWhole) (arg3 : Memref sig .tc .vmem S5376x1024 .fp8e4m3) (harg3 : arg3.IsWhole) (arg4 : Memref sig .tc .smem S42x64 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x1x8x128 .bf16) (harg7 : arg7.IsWhole) (arg8 : Memref sig .tc .vmem S512x1x8x128 .bf16) (harg8 : arg8.IsWhole) (arg9 : Memref sig .tc .vmem S512x1x8x128 .bf16) (harg9 : arg9.IsWhole) (arg10 : Memref sig .tc .vmem S5376x1024 .bf16) (harg10 : arg10.IsWhole)
    (x0 : Vec F S512x5376 .bf16) (x1 : Vec F S5376x1024 .fp8e4m3) (x2 : Vec F S42x64 .f32)
    (hc0 : ¬ k0_cond1 i = 1#1) (hc1 : ¬ k0_cond2 i = 1#1) (hc2 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg9 fullShare (outV (k0_pay1 x0 (Wb i x1 x2))) ∗ (∃ d, owns (c : Thread nD τ) arg10 fullShare d)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10) K := by
  rw [body_eq, wp_bind]
  iintro ⟨H0, H1, H2, HO, HS, Hk⟩
  iapply (fill_weights c i _ _ _ _ _ _ _ _ _ _ _ _ _ _ _ _ _ _ x0 x1 x2 E _)
  isplitl [H0]; · iexact H0
  isplitl [H1]; · iexact H1
  isplitl [H2]; · iexact H2
  isplitl [HS]; · iexact HS
  iintro ⟨H0, H1, H2, HS⟩
  iapply (tail_v c i _ _ _ _ _ _ _ _ _ _ _ _ _ _ _ _ _ _ x0 (Wb i x1 x2) hc0 hc1 hc2 E _)
  isplitl [HO]; · iexact HO
  iintro HO
  iapply Hk
  isplitl [H0]; · iexact H0
  isplitl [H1]; · iexact H1
  isplitl [H2]; · iexact H2
  isplitl [HO]; · iexact HO
  iexact HS

end Cert.KernelIdeal.Hand

end
-- ==== Proof.Run.lean ====
module

public import proofs.«01_k».proof.Proof.Body
public import Idealize.ShloMosaic.Lib.Claim
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid point's case, and the schedule of the output windows -/

theorem isQ : ∀ t : Fin cfg0.N, k0_cond1 (grid0.coords t) = 1#1 ↔ t.val % 8 ≤ 3 :=
  (by decide +kernel : ∀ t : Fin grid0.N, k0_cond1 (grid0.coords t) = 1#1 ↔ t.val % 8 ≤ 3)
theorem isK : ∀ t : Fin cfg0.N, k0_cond2 (grid0.coords t) = 1#1 ↔ (4 ≤ t.val % 8 ∧ t.val % 8 ≤ 5) :=
  (by decide +kernel : ∀ t : Fin grid0.N, k0_cond2 (grid0.coords t) = 1#1 ↔ (4 ≤ t.val % 8 ∧ t.val % 8 ≤ 5))
theorem isV : ∀ t : Fin cfg0.N, k0_cond3 (grid0.coords t) = 1#1 ↔ 6 ≤ t.val % 8 :=
  (by decide +kernel : ∀ t : Fin grid0.N, k0_cond3 (grid0.coords t) = 1#1 ↔ 6 ≤ t.val % 8)

theorem idle5 : ∀ t : Fin cfg0.N, cfg0.idle 5 (grid0.coords t) = !decide (t.val % 8 ≤ 3) :=
  (by decide +kernel : ∀ t : Fin grid0.N, (!(k0_cond1 (grid0.coords t) == 1#1)) = !decide (t.val % 8 ≤ 3))
theorem idle6 : ∀ t : Fin cfg0.N, cfg0.idle 6 (grid0.coords t) = !decide (4 ≤ t.val % 8 ∧ t.val % 8 ≤ 5) :=
  (by decide +kernel : ∀ t : Fin grid0.N, (!(k0_cond2 (grid0.coords t) == 1#1)) = !decide (4 ≤ t.val % 8 ∧ t.val % 8 ≤ 5))
theorem idle7 : ∀ t : Fin cfg0.N, cfg0.idle 7 (grid0.coords t) = !decide (6 ≤ t.val % 8) :=
  (by decide +kernel : ∀ t : Fin grid0.N, (!(k0_cond3 (grid0.coords t) == 1#1)) = !decide (6 ≤ t.val % 8))

/-- A block of queries goes back after each head block but the last, and the last one at the row block's end. -/
theorem flush5 : ∀ t : Fin cfg0.N, (cfg0.win 5).flush t = decide (t.val % 8 ≤ 2 ∨ t.val % 8 = 7) :=
  (by decide +kernel : ∀ t : Fin grid0.N, win0_5.flush t = decide (t.val % 8 ≤ 2 ∨ t.val % 8 = 7))
theorem flush6 : ∀ t : Fin cfg0.N, (cfg0.win 6).flush t = decide (t.val % 8 = 4 ∨ t.val % 8 = 7) :=
  (by decide +kernel : ∀ t : Fin grid0.N, win0_6.flush t = decide (t.val % 8 = 4 ∨ t.val % 8 = 7))
theorem flush7 : ∀ t : Fin cfg0.N, (cfg0.win 7).flush t = decide (6 ≤ t.val % 8) :=
  (by decide +kernel : ∀ t : Fin grid0.N, win0_7.flush t = decide (6 ≤ t.val % 8))

theorem cfgN : cfg0.N = 192 := N_0

/-- At points 4 to 7 of a row block the query buffer holds the block of point 3. -/
theorem fresh5 (n : ℕ) (hn : n ≤ cfg0.N) : cfg0.fresh 5 n = decide (n % 8 ≤ 3) :=
  cfg0.fresh_tab 5 (fun n => decide (n % 8 ≤ 3)) rfl (fun t => by
    show _ = ((cfg0.win 5).flush t || (cfg0.idle 5 (grid0.coords t) && _))
    rw [flush5, idle5]
    by_cases h : t.val % 8 ≤ 3 <;> by_cases h' : t.val % 8 ≤ 2 <;> by_cases h'' : t.val % 8 = 7 <;>
      simp [h, h', h''] <;> omega) n hn
/-- At points 6 and 7 of a row block the key buffer holds the block of point 5. -/
theorem fresh6 (n : ℕ) (hn : n ≤ cfg0.N) : cfg0.fresh 6 n = decide (n % 8 ≤ 5) :=
  cfg0.fresh_tab 6 (fun n => decide (n % 8 ≤ 5)) rfl (fun t => by
    show _ = ((cfg0.win 6).flush t || (cfg0.idle 6 (grid0.coords t) && _))
    rw [flush6, idle6]
    by_cases h : t.val % 8 ≤ 5 <;> by_cases h' : t.val % 8 = 4 <;> by_cases h'' : t.val % 8 = 7 <;>
      by_cases h3 : 4 ≤ t.val % 8 <;>
      simp [h, h', h'', h3] <;> omega) n hn

/-! ## What each point leaves in the output windows -/

/-- The last point up to `t` whose block of queries the query buffer holds. -/
def pq (t : Fin cfg0.N) : Fin cfg0.N := ⟨8 * (t.val / 8) + min (t.val % 8) 3, by have := t.isLt; omega⟩
/-- The last point up to `t` whose block of keys the key buffer holds. -/
def pk (t : Fin cfg0.N) : Fin cfg0.N := ⟨8 * (t.val / 8) + min (t.val % 8) 5, by have := t.isLt; omega⟩

/-- The product block at point `t`. -/
def Yb (c : Dev nD) (t : Fin cfg0.N) : FVec F S512x1024 .f32 :=
  k0_pay1 (iblk m c 0 t) (Wb (grid0.coords t) (iblk m c 1 t) (iblk m c 2 t))

/-- The block of queries, of keys, of values of point `t`. -/
def bq (c : Dev nD) (t : Fin cfg0.N) : Vec F S512x1x8x128 .bf16 := outN (Yb m c t) (iblk m c 3 t)
def bk (c : Dev nD) (t : Fin cfg0.N) : Vec F S512x1x8x128 .bf16 := outN (Yb m c t) (iblk m c 4 t)
def bv (c : Dev nD) (t : Fin cfg0.N) : Vec F S512x1x8x128 .bf16 := outV (Yb m c t)

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => bq m c (pq t)
    | ⟨6, _⟩ => bk m c (pk t)
    | ⟨7, _⟩ => bv m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = bq m c (pq t) := by dsimp only [dats]
theorem after_6 (c : Dev nD) (t : Fin cfg0.N) : (dats m 0 c).after 6 t = bk m c (pk t) := by dsimp only [dats]
theorem after_7 (c : Dev nD) (t : Fin cfg0.N) : (dats m 0 c).after 7 t = bv m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem pq_carry (t t' : Fin cfg0.N) (h : t'.val = t.val - 1) (ht : 4 ≤ t.val % 8) : pq t = pq t' := by
  refine Fin.ext ?_
  show 8 * (t.val / 8) + min (t.val % 8) 3 = 8 * (t'.val / 8) + min (t'.val % 8) 3
  omega

theorem pk_carry (t t' : Fin cfg0.N) (h : t'.val = t.val - 1) (ht : 6 ≤ t.val % 8) : pk t = pk t' := by
  refine Fin.ext ?_
  show 8 * (t.val / 8) + min (t.val % 8) 5 = 8 * (t'.val / 8) + min (t'.val % 8) 5
  omega

/-- Past the query blocks of its row block, a point finds the last of them in the query buffer. -/
theorem before_5 (c : Dev nD) (t : Fin cfg0.N) (ht : 4 ≤ t.val % 8) (d) : (dats m 0 c).before 5 t d = (dats m 0 c).after 5 t := by
  rw [(dats m 0 c).before_out_traj 5 rfl (fun _ _ => rfl) (fun s hs hi hf => ?_) t.val t rfl d, fresh5 _ (le_of_lt t.isLt),
    if_neg (by simp; omega), after_5, after_5]
  · exact congrArg (bq m c) (pq_carry t _ rfl ht).symm
  · rw [after_5, after_5]
    rw [fresh5 _ (le_of_lt s.isLt)] at hf
    simp at hf
    exact congrArg (bq m c) (pq_carry s _ rfl (by omega))

/-- Past the key blocks of its row block, a point finds the last of them in the key buffer. -/
theorem before_6 (c : Dev nD) (t : Fin cfg0.N) (ht : 6 ≤ t.val % 8) (d) : (dats m 0 c).before 6 t d = (dats m 0 c).after 6 t := by
  rw [(dats m 0 c).before_out_traj 6 rfl (fun _ _ => rfl) (fun s hs hi hf => ?_) t.val t rfl d, fresh6 _ (le_of_lt t.isLt),
    if_neg (by simp; omega), after_6, after_6]
  · exact congrArg (bk m c) (pk_carry t _ rfl ht).symm
  · rw [after_6, after_6]
    rw [fresh6 _ (le_of_lt s.isLt)] at hf
    simp at hf
    exact congrArg (bk m c) (pk_carry s _ rfl (by omega))

/-- An idle buffer handed back as found: enough, where the point writes it back, that it holds what is stated. -/
theorem leaves_found {c : Dev nD} (dat : Dat τ (Elt F) Unit ℕ (UR sig nD τ) ℕ cfg0 c) (w : Fin cfg0.W) (t : Fin cfg0.N)
    (hi : cfg0.idle w (grid0.coords t) = true) (h : (cfg0.win w).flush t = true → ∀ d, dat.before w t d = dat.after w t) :
    (iprop(∃ d, owns (c : Thread nD τ) ((cfg0.win w).stage (cfg0.slots t w)) fullShare (dat.before w t d)) : sProp 𝕄) ⊢ dat.leavesExact w t := by
  cases hf : (cfg0.win w).flush t
  · rw [dat.leavesExact_idle w t hi hf]
  · have he : dat.leavesExact w t = owns (c : Thread nD τ) ((cfg0.win w).stage (cfg0.slots t w)) fullShare (dat.after w t) := by
      unfold Dat.leavesExact
      rw [show cfg0.idle w (cfg0.grid.coords t) = true from hi, hf]
    rw [he]
    iintro ⟨%d, H⟩
    rw [h hf d]
    iexact H

/-- A buffer the point stores into is left at what is stated. -/
theorem leaves_live {c : Dev nD} (dat : Dat τ (Elt F) Unit ℕ (UR sig nD τ) ℕ cfg0 c) (w : Fin cfg0.W) (t : Fin cfg0.N)
    (hi : cfg0.idle w (grid0.coords t) = false) :
    dat.leavesExact w t = (owns (c : Thread nD τ) ((cfg0.win w).stage (cfg0.slots t w)) fullShare (dat.after w t) : sProp 𝕄) := by
  unfold Dat.leavesExact
  rw [show cfg0.idle w (cfg0.grid.coords t) = false from hi]

/-! ## The body obligation -/

/-- The scratch the kernel keeps the dequantised weights in. -/
abbrev scM : Memref sig .tc .vmem S5376x1024 .bf16 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  rw [leaves_live (dats m 0 c) 0 t rfl, leaves_live (dats m 0 c) 1 t rfl, leaves_live (dats m 0 c) 2 t rfl,
    leaves_live (dats m 0 c) 3 t rfl, leaves_live (dats m 0 c) 4 t rfl, after_0, after_1, after_2, after_3, after_4]
  have hN : t.val < 192 := lt_of_lt_of_eq t.isLt cfgN
  by_cases h0 : t.val % 8 ≤ 3
  · rw [leaves_live (dats m 0 c) 5 t (by rw [idle5]; simp; omega), after_5]
    rw [show pq t = t from Fin.ext (by show 8 * (t.val / 8) + min (t.val % 8) 3 = t.val; omega)]
    iintro ⟨⟨HS, Hg⟩, Ho, ⟨%d0, H0⟩, ⟨%d1, H1⟩, ⟨%d2, H2⟩, ⟨%d3, H3⟩, ⟨%d4, H4⟩, H5, H6, H7⟩
    icases H5 with ⟨%dw, H5⟩
    iapply (body_q c (grid0.coords t) _ _ _ _ _ _ _ _ _ _ _ _ _ _ _ _ _ _ (iblk m c 0 t) (iblk m c 1 t) (iblk m c 2 t) (iblk m c 3 t) ((isQ t).mpr h0) (fun h => absurd ((isK t).mp h) (by omega)) (fun h => absurd ((isV t).mp h) (by omega)) Set.univ _)
    isplitl [H0]; · iexact H0
    isplitl [H1]; · iexact H1
    isplitl [H2]; · iexact H2
    isplitl [H3]; · iexact H3
    isplitl [H5]; · iexists _; iexact H5
    isplitl [HS]; · iexact HS
    iintro ⟨H0, H1, H2, H3, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_found (dats m 0 c) 6 t (by rw [idle6]; simp; omega) (fun hf d => before_6 m c t (by rw [flush6] at hf; simp at hf; omega) d)); iexact H6
    iapply (leaves_found (dats m 0 c) 7 t (by rw [idle7]; simp; omega) (fun hf d => absurd hf (by rw [flush7]; simp; omega))); iexact H7
  · by_cases h1 : (4 ≤ t.val % 8 ∧ t.val % 8 ≤ 5)
    · rw [leaves_live (dats m 0 c) 6 t (by rw [idle6]; simp; omega), after_6]
      rw [show pk t = t from Fin.ext (by show 8 * (t.val / 8) + min (t.val % 8) 5 = t.val; omega)]
      iintro ⟨⟨HS, Hg⟩, Ho, ⟨%d0, H0⟩, ⟨%d1, H1⟩, ⟨%d2, H2⟩, ⟨%d3, H3⟩, ⟨%d4, H4⟩, H5, H6, H7⟩
      icases H6 with ⟨%dw, H6⟩
      iapply (body_k c (grid0.coords t) _ _ _ _ _ _ _ _ _ _ _ _ _ _ _ _ _ _ (iblk m c 0 t) (iblk m c 1 t) (iblk m c 2 t) (iblk m c 4 t) (fun h => absurd ((isQ t).mp h) (by omega)) ((isK t).mpr h1) (fun h => absurd ((isV t).mp h) (by omega)) Set.univ _)
      isplitl [H0]; · iexact H0
      isplitl [H1]; · iexact H1
      isplitl [H2]; · iexact H2
      isplitl [H4]; · iexact H4
      isplitl [H6]; · iexists _; iexact H6
      isplitl [HS]; · iexact HS
      iintro ⟨H0, H1, H2, H4, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves_found (dats m 0 c) 5 t (by rw [idle5]; simp; omega) (fun _ d => before_5 m c t (by omega) d)); iexact H5
      isplitl [H6]; · iexact H6
      iapply (leaves_found (dats m 0 c) 7 t (by rw [idle7]; simp; omega) (fun hf d => absurd hf (by rw [flush7]; simp; omega))); iexact H7
    · rw [leaves_live (dats m 0 c) 7 t (by rw [idle7]; simp; omega), after_7]
      iintro ⟨⟨HS, Hg⟩, Ho, ⟨%d0, H0⟩, ⟨%d1, H1⟩, ⟨%d2, H2⟩, ⟨%d3, H3⟩, ⟨%d4, H4⟩, H5, H6, H7⟩
      icases H7 with ⟨%dw, H7⟩
      iapply (body_v c (grid0.coords t) _ _ _ _ _ _ _ _ _ _ _ _ _ _ _ _ _ _ (iblk m c 0 t) (iblk m c 1 t) (iblk m c 2 t) (fun h => absurd ((isQ t).mp h) (by omega)) (fun h => absurd ((isK t).mp h) (by omega)) ((isV t).mpr (by omega)) Set.univ _)
      isplitl [H0]; · iexact H0
      isplitl [H1]; · iexact H1
      isplitl [H2]; · iexact H2
      isplitl [H7]; · iexists _; iexact H7
      isplitl [HS]; · iexact HS
      iintro ⟨H0, H1, H2, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves_found (dats m 0 c) 5 t (by rw [idle5]; simp; omega) (fun _ d => before_5 m c t (by omega) d)); iexact H5
      isplitl [H6]; · iapply (leaves_found (dats m 0 c) 6 t (by rw [idle6]; simp; omega) (fun hf d => before_6 m c t (by rw [flush6] at hf; simp at hf; omega) d)); iexact H6
      iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array of the pipeline ends at what the proof data says, every other buffer as it was, and every
    semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Math.lean ====
module

public import proofs.«01_k».proof.Proof.Block
public import proofs.«01_k».proof.Proof.Tile
public import proofs.«01_k».proof.Proof.Gen.ReferenceIdeal.Value
public import Idealize.ShloMosaic.Lib.MatmulPlain
public import Idealize.ShloMosaic.Lib.Pipeline.Value

@[expose] public section

set_option maxRecDepth 16384

noncomputable section

/-! The arithmetic of the two programs over the extended reals, element by element: the product of a row with a
    dequantised weight column, and a head's normalisation. -/

namespace Cert.Proof.Hand

open Idealize.ShloMosaic Idealize.ShloMosaic.TcCoe
open scoped BigOperators

/-- The dequantised weight at row `k` and column `n`: the code's value times the scale of its 128 × 128 block. -/
def wt (a1 : FVec Ideal ⟨2, ![5376, 8192]⟩ .fp8e4m3) (a2 : FVec Ideal ⟨2, ![42, 64]⟩ .f32) (k : Fin 5376) (n : Fin 8192) : EReal :=
  a1 (ValueIdx.ix2 k n) * a2 (ValueIdx.ix2 ⟨k.val / 128, by omega⟩ ⟨n.val / 128, by omega⟩)

/-- The product of row `r` with weight column `n`. -/
def dot (a0 : FVec Ideal ⟨2, ![12288, 5376]⟩ .bf16) (a1 : FVec Ideal ⟨2, ![5376, 8192]⟩ .fp8e4m3) (a2 : FVec Ideal ⟨2, ![42, 64]⟩ .f32)
    (r : Fin 12288) (n : Fin 8192) : EReal :=
  ∑ k : Fin 5376, a0 (ValueIdx.ix2 r k) * wt a1 a2 k n

/-- Element `d` of a head `v` over the root of the head's mean square, times the weight `w`. -/
def nrm (v : Fin 128 → EReal) (w : EReal) (d : Fin 128) : EReal :=
  FloatOps.mulf (F := Ideal) (φ := .f32) (FloatOps.mulf (F := Ideal) (φ := .f32) (v d)
    (FloatOps.rsqrt (F := Ideal) (φ := .f32) (FloatOps.addf (F := Ideal) (φ := .f32)
      (FloatOps.divf (F := Ideal) (φ := .f32) (∑ k : Fin 128, v k * v k) (Scalar.ofBits .f32 0x43000000#32))
      (Scalar.ofBits .f32 0x358637BD#32)))) w

section Reference
open Cert.ReferenceIdeal Cert.ReferenceIdeal.Gen

/-- The reference's weight matrix, reshaped into blocks, scaled and reshaped back, element by element. -/
theorem ref_weight (a1 : FVec Ideal S5376x8192 .fp8e4m3) (a2 : FVec Ideal S42x64 .f32) (k : Fin 5376) (n : Fin 8192) :
    shapeCast S5376x8192 (mulf (shapeCast S42x128x64x128 (extf .bf16 a1 bitsLt_fp8e4m3_bf16) shapeCasts_S5376x8192_S42x128x64x128)
      (broadcastTo S42x128x64x128 (shapeCast S42x1x64x1 (truncf .bf16 a2 bitsLt_bf16_f32) shapeCasts_S42x64_S42x1x64x1)
        broadcasts_S42x1x64x1_S42x128x64x128)) shapeCasts_S42x128x64x128_S5376x8192 (ValueIdx.ix2 k n) = wt a1 a2 k n := by
  have hk := k.isLt
  have hn := n.isLt
  rw [shapeCast_apply _ _ _ (ValueIdx.ix4 (⟨k.val / 128, by omega⟩ : Fin 42) (⟨k.val % 128, by omega⟩ : Fin 128)
    (⟨n.val / 128, by omega⟩ : Fin 64) (⟨n.val % 128, by omega⟩ : Fin 128)) (by
      rw [Shape.rowMajor_val_two, Shape.rowMajor_val_four]
      show ((k.val / 128 * 128 + k.val % 128) * 64 + n.val / 128) * 128 + n.val % 128 = k.val * 8192 + n.val
      omega)]
  unfold wt
  show shapeCast S42x128x64x128 (extf .bf16 a1 bitsLt_fp8e4m3_bf16) shapeCasts_S5376x8192_S42x128x64x128 _
    * broadcastTo S42x128x64x128 _ _ _ = _
  congr 1
  · refine shapeCast_apply (extf .bf16 a1 bitsLt_fp8e4m3_bf16) _ _ (ValueIdx.ix2 k n) ?_
    rw [Shape.rowMajor_val_two, Shape.rowMajor_val_four]
    show k.val * 8192 + n.val = ((k.val / 128 * 128 + k.val % 128) * 64 + n.val / 128) * 128 + n.val % 128
    omega
  · refine (broadcastTo_apply _ _ _ (ValueIdx.ix4 (⟨k.val / 128, by omega⟩ : Fin 42) (0 : Fin 1)
      (⟨n.val / 128, by omega⟩ : Fin 64) (0 : Fin 1)) fun a => by fin_cases a <;> rfl).trans ?_
    refine shapeCast_apply (truncf .bf16 a2 bitsLt_bf16_f32) _ _ (ValueIdx.ix2 (⟨k.val / 128, by omega⟩ : Fin 42) (⟨n.val / 128, by omega⟩ : Fin 64)) ?_
    rw [Shape.rowMajor_val_two, Shape.rowMajor_val_four]
    show k.val / 128 * 64 + n.val / 128 = ((k.val / 128 * 1 + 0) * 64 + n.val / 128) * 1 + 0
    omega

/-- The reference's product. -/
theorem ref_dot (a0 : FVec Ideal S12288x5376 .bf16) (a1 : FVec Ideal S5376x8192 .fp8e4m3) (a2 : FVec Ideal S42x64 .f32) (r : Fin 12288) (n : Fin 8192) :
    k0_pay4 (F := Ideal) a1 a2 a0 (ValueIdx.ix2 r n) = dot a0 a1 a2 r n := by
  unfold k0_pay4 dot
  refine (Ideal.matmul_plain_apply (M := 12288) (K := 5376) (N := 8192) none a0 _ _ r n).trans ?_
  show Ideal.ofBits .f32 0x00000000#32 + _ = _
  rw [Ideal.ofBits_zero_f32, zero_add]
  exact Finset.sum_congr rfl fun k _ => congrArg (a0 (ValueIdx.ix2 r k) * ·) (ref_weight a1 a2 k n)

/-- The queries' part of the product, split into heads. -/
theorem ref_headsQ (Y : FVec Ideal S12288x8192 .f32) (r : Fin 12288) (h : Fin 32) (d : Fin 128) :
    shapeCast S12288x32x128 (extractStridedSlice S12288x4096 ![0, 0] Y slices_S12288x8192_o0_0_S12288x4096) shapeCasts_S12288x4096_S12288x32x128 (ValueIdx.ix3 r h d)
      = Y (ValueIdx.ix2 r ⟨128 * h.val + d.val, by omega⟩) := by
  rw [shapeCast_apply _ _ _ (ValueIdx.ix2 r (⟨128 * h.val + d.val, by omega⟩ : Fin 4096)) (by
    rw [Shape.rowMajor_val_two, Shape.rowMajor_val_three]
    show r.val * 4096 + (128 * h.val + d.val) = (r.val * 32 + h.val) * 128 + d.val
    omega)]
  refine extractStridedSlice_apply _ _ _ _ _ fun a => ?_
  fin_cases a
  · show r.val = 0 + r.val
    omega
  · show 128 * h.val + d.val = 0 + (128 * h.val + d.val)
    omega

/-- The keys' or the values' part of the product, which begins at column `o`, split into heads. -/
theorem ref_headsKV (Y : FVec Ideal S12288x8192 .f32) {o : ℕ} (ho : o + 2048 ≤ 8192) (hs : S12288x8192.Slices ![0, o] S12288x2048)
    (r : Fin 12288) (h : Fin 16) (d : Fin 128) :
    shapeCast S12288x16x128 (extractStridedSlice S12288x2048 ![0, o] Y hs) shapeCasts_S12288x2048_S12288x16x128 (ValueIdx.ix3 r h d)
      = Y (ValueIdx.ix2 r ⟨o + (128 * h.val + d.val), by omega⟩) := by
  rw [shapeCast_apply _ _ _ (ValueIdx.ix2 r (⟨128 * h.val + d.val, by omega⟩ : Fin 2048)) (by
    rw [Shape.rowMajor_val_two, Shape.rowMajor_val_three]
    show r.val * 2048 + (128 * h.val + d.val) = (r.val * 16 + h.val) * 128 + d.val
    omega)]
  refine extractStridedSlice_apply _ _ _ _ _ fun a => ?_
  fin_cases a
  · show r.val = 0 + r.val
    omega
  · rfl

/-- The 32 heads over the roots of their mean squares. -/
theorem ref_root32 (v : FVec Ideal S12288x32x128 .f32) (r : Fin 12288) (h : Fin 32) (d : Fin 128) (w : EReal) :
    FloatOps.mulf (F := Ideal) (φ := .f32) (mulf v (broadcastTo S12288x32x128 (rsqrt (addf (divf (shapeCast S12288x32x1
      (multiReduction .add [2] S12288x32 (mulf v v) 0x00000000#32 reduces_S12288x32x128_S12288x32 (.inl rfl) rfl) shapeCasts_S12288x32_S12288x32x1)
      (broadcast S12288x32x1 (Scalar.ofBits .f32 0x43000000#32))) (broadcast S12288x32x1 (Scalar.ofBits .f32 0x358637BD#32)))) broadcasts_S12288x32x1_S12288x32x128) (ValueIdx.ix3 r h d)) w
      = nrm (fun k => v (ValueIdx.ix3 r h k)) w d := by
  have hs : (multiReduction .add [2] S12288x32 (mulf v v) 0x00000000#32 reduces_S12288x32x128_S12288x32 (.inl rfl) rfl : FVec Ideal S12288x32 .f32) (ValueIdx.ix2 r h)
      = ∑ k : Fin 128, v (ValueIdx.ix3 r h k) * v (ValueIdx.ix3 r h k) := by
    refine (Ideal.multiReduction_add_single _ _ _ _ _ _).trans (Finset.sum_congr rfl fun k _ => ?_)
    have e : reduces_S12288x32x128_S12288x32.lift (ValueIdx.ix2 r h) k = ValueIdx.ix3 r h k := by
      funext a; apply Fin.ext; fin_cases a <;> rfl
    rw [e]; rfl
  unfold nrm
  refine congrArg (FloatOps.mulf (F := Ideal) (φ := .f32) · w) (congrArg (FloatOps.mulf (F := Ideal) (φ := .f32) (v (ValueIdx.ix3 r h d))) ?_)
  refine (broadcastTo_apply _ _ _ (ValueIdx.ix3 r h (0 : Fin 1)) fun a => by fin_cases a <;> rfl).trans ?_
  rw [← hs]
  refine congrArg (fun z => FloatOps.rsqrt (F := Ideal) (φ := .f32) (FloatOps.addf (F := Ideal) (φ := .f32)
    (FloatOps.divf (F := Ideal) (φ := .f32) z (Scalar.ofBits .f32 0x43000000#32)) (Scalar.ofBits .f32 0x358637BD#32))) ?_
  refine shapeCast_apply _ _ _ (ValueIdx.ix2 r h) ?_
  rw [Shape.rowMajor_val_two, Shape.rowMajor_val_three]
  show r.val * 32 + h.val = (r.val * 32 + h.val) * 1 + 0
  omega

/-- The weights broadcast over 32 heads. -/
theorem ref_weights32 (w : FVec Ideal S128 .f32) (r : Fin 12288) (h : Fin 32) (d : Fin 128) :
    broadcastTo S12288x32x128 (shapeCast S1x1x128 w shapeCasts_S128_S1x1x128) broadcasts_S1x1x128_S12288x32x128 (ValueIdx.ix3 r h d) = w (ValueIdx.ix1 d) := by
  refine (broadcastTo_apply _ _ _ (ValueIdx.ix3 (0 : Fin 1) (0 : Fin 1) d) fun a => by fin_cases a <;> rfl).trans ?_
  refine shapeCast_apply _ _ _ (ValueIdx.ix1 d) ?_
  rw [Shape.rowMajor_val_one, Shape.rowMajor_val_three]
  show d.val = (0 * 1 + 0) * 128 + d.val
  omega

/-- The 16 heads over the roots of their mean squares. -/
theorem ref_root16 (v : FVec Ideal S12288x16x128 .f32) (r : Fin 12288) (h : Fin 16) (d : Fin 128) (w : EReal) :
    FloatOps.mulf (F := Ideal) (φ := .f32) (mulf v (broadcastTo S12288x16x128 (rsqrt (addf (divf (shapeCast S12288x16x1
      (multiReduction .add [2] S12288x16 (mulf v v) 0x00000000#32 reduces_S12288x16x128_S12288x16 (.inl rfl) rfl) shapeCasts_S12288x16_S12288x16x1)
      (broadcast S12288x16x1 (Scalar.ofBits .f32 0x43000000#32))) (broadcast S12288x16x1 (Scalar.ofBits .f32 0x358637BD#32)))) broadcasts_S12288x16x1_S12288x16x128) (ValueIdx.ix3 r h d)) w
      = nrm (fun k => v (ValueIdx.ix3 r h k)) w d := by
  have hs : (multiReduction .add [2] S12288x16 (mulf v v) 0x00000000#32 reduces_S12288x16x128_S12288x16 (.inl rfl) rfl : FVec Ideal S12288x16 .f32) (ValueIdx.ix2 r h)
      = ∑ k : Fin 128, v (ValueIdx.ix3 r h k) * v (ValueIdx.ix3 r h k) := by
    refine (Ideal.multiReduction_add_single _ _ _ _ _ _).trans (Finset.sum_congr rfl fun k _ => ?_)
    have e : reduces_S12288x16x128_S12288x16.lift (ValueIdx.ix2 r h) k = ValueIdx.ix3 r h k := by
      funext a; apply Fin.ext; fin_cases a <;> rfl
    rw [e]; rfl
  unfold nrm
  refine congrArg (FloatOps.mulf (F := Ideal) (φ := .f32) · w) (congrArg (FloatOps.mulf (F := Ideal) (φ := .f32) (v (ValueIdx.ix3 r h d))) ?_)
  refine (broadcastTo_apply _ _ _ (ValueIdx.ix3 r h (0 : Fin 1)) fun a => by fin_cases a <;> rfl).trans ?_
  rw [← hs]
  refine congrArg (fun z => FloatOps.rsqrt (F := Ideal) (φ := .f32) (FloatOps.addf (F := Ideal) (φ := .f32)
    (FloatOps.divf (F := Ideal) (φ := .f32) z (Scalar.ofBits .f32 0x43000000#32)) (Scalar.ofBits .f32 0x358637BD#32))) ?_
  refine shapeCast_apply _ _ _ (ValueIdx.ix2 r h) ?_
  rw [Shape.rowMajor_val_two, Shape.rowMajor_val_three]
  show r.val * 16 + h.val = (r.val * 16 + h.val) * 1 + 0
  omega

/-- The weights broadcast over 16 heads. -/
theorem ref_weights16 (w : FVec Ideal S128 .f32) (r : Fin 12288) (h : Fin 16) (d : Fin 128) :
    broadcastTo S12288x16x128 (shapeCast S1x1x128 w shapeCasts_S128_S1x1x128) broadcasts_S1x1x128_S12288x16x128 (ValueIdx.ix3 r h d) = w (ValueIdx.ix1 d) := by
  refine (broadcastTo_apply _ _ _ (ValueIdx.ix3 (0 : Fin 1) (0 : Fin 1) d) fun a => by fin_cases a <;> rfl).trans ?_
  refine shapeCast_apply _ _ _ (ValueIdx.ix1 d) ?_
  rw [Shape.rowMajor_val_one, Shape.rowMajor_val_three]
  show d.val = (0 * 1 + 0) * 128 + d.val
  omega

/-- The reference's queries, element by element. -/
theorem ref_q (a0 : FVec Ideal S12288x5376 .bf16) (a1 : FVec Ideal S5376x8192 .fp8e4m3) (a2 : FVec Ideal S42x64 .f32) (a3 a4 : FVec Ideal S128 .f32)
    (r : Fin 12288) (n : Fin 4) (h : Fin 8) (d : Fin 128) :
    Cert.ReferenceIdeal.Value.G5 (F := Ideal) a0 a1 a2 a3 a4 (ValueIdx.ix4 r n h d)
      = nrm (fun k => dot a0 a1 a2 r ⟨128 * (8 * n.val + h.val) + k.val, by omega⟩) (a3 (ValueIdx.ix1 d)) d := by
  unfold Cert.ReferenceIdeal.Value.G5 k0_pay1 k0_pay6
  refine (shapeCast_apply _ _ _ (ValueIdx.ix3 r (⟨8 * n.val + h.val, by omega⟩ : Fin 32) d) (by
    rw [Shape.rowMajor_val_three, Shape.rowMajor_val_four]
    show (r.val * 32 + (8 * n.val + h.val)) * 128 + d.val = ((r.val * 4 + n.val) * 8 + h.val) * 128 + d.val
    omega)).trans ?_
  refine Eq.trans ?_ ((ref_root32 (shapeCast S12288x32x128 (extractStridedSlice S12288x4096 ![0, 0] (k0_pay4 a1 a2 a0) slices_S12288x8192_o0_0_S12288x4096) shapeCasts_S12288x4096_S12288x32x128)
    r ⟨8 * n.val + h.val, by omega⟩ d (a3 (ValueIdx.ix1 d))).trans ?_)
  · exact congrArg (FloatOps.mulf (F := Ideal) (φ := .f32) _) (ref_weights32 a3 r ⟨8 * n.val + h.val, by omega⟩ d)
  · refine congrArg (nrm · _ d) (funext fun k => ?_)
    exact (ref_headsQ _ r ⟨8 * n.val + h.val, by omega⟩ k).trans (ref_dot a0 a1 a2 r _)

/-- The reference's keys, element by element. -/
theorem ref_k (a0 : FVec Ideal S12288x5376 .bf16) (a1 : FVec Ideal S5376x8192 .fp8e4m3) (a2 : FVec Ideal S42x64 .f32) (a3 a4 : FVec Ideal S128 .f32)
    (r : Fin 12288) (n : Fin 2) (h : Fin 8) (d : Fin 128) :
    Cert.ReferenceIdeal.Value.G6 (F := Ideal) a0 a1 a2 a3 a4 (ValueIdx.ix4 r n h d)
      = nrm (fun k => dot a0 a1 a2 r ⟨4096 + (128 * (8 * n.val + h.val) + k.val), by omega⟩) (a4 (ValueIdx.ix1 d)) d := by
  unfold Cert.ReferenceIdeal.Value.G6 k0_pay2 k0_pay7 k0_pay8
  refine (shapeCast_apply _ _ _ (ValueIdx.ix3 r (⟨8 * n.val + h.val, by omega⟩ : Fin 16) d) (by
    rw [Shape.rowMajor_val_three, Shape.rowMajor_val_four]
    show (r.val * 16 + (8 * n.val + h.val)) * 128 + d.val = ((r.val * 2 + n.val) * 8 + h.val) * 128 + d.val
    omega)).trans ?_
  refine Eq.trans ?_ ((ref_root16 (shapeCast S12288x16x128 (extractStridedSlice S12288x2048 ![0, 4096] (k0_pay4 a1 a2 a0) slices_S12288x8192_o0_4096_S12288x2048) shapeCasts_S12288x2048_S12288x16x128)
    r ⟨8 * n.val + h.val, by omega⟩ d (a4 (ValueIdx.ix1 d))).trans ?_)
  · exact congrArg (FloatOps.mulf (F := Ideal) (φ := .f32) _) (ref_weights16 a4 r ⟨8 * n.val + h.val, by omega⟩ d)
  · refine congrArg (nrm · _ d) (funext fun k => ?_)
    exact (ref_headsKV _ (by omega) _ r ⟨8 * n.val + h.val, by omega⟩ k).trans (ref_dot a0 a1 a2 r _)

/-- The reference's values, element by element. -/
theorem ref_v (a0 : FVec Ideal S12288x5376 .bf16) (a1 : FVec Ideal S5376x8192 .fp8e4m3) (a2 : FVec Ideal S42x64 .f32) (a3 a4 : FVec Ideal S128 .f32)
    (r : Fin 12288) (n : Fin 2) (h : Fin 8) (d : Fin 128) :
    Cert.ReferenceIdeal.Value.G7 (F := Ideal) a0 a1 a2 a3 a4 (ValueIdx.ix4 r n h d)
      = dot a0 a1 a2 r ⟨6144 + (128 * (8 * n.val + h.val) + d.val), by omega⟩ := by
  unfold Cert.ReferenceIdeal.Value.G7 k0_pay3 k0_pay5
  refine (shapeCast_apply _ _ _ (ValueIdx.ix3 r (⟨8 * n.val + h.val, by omega⟩ : Fin 16) d) (by
    rw [Shape.rowMajor_val_three, Shape.rowMajor_val_four]
    show (r.val * 16 + (8 * n.val + h.val)) * 128 + d.val = ((r.val * 2 + n.val) * 8 + h.val) * 128 + d.val
    omega)).trans ?_
  exact (ref_headsKV (k0_pay4 (F := Ideal) a1 a2 a0) (by omega) slices_S12288x8192_o0_6144_S12288x2048 r ⟨8 * n.val + h.val, by omega⟩ d).trans (ref_dot a0 a1 a2 r _)

end Reference

section Kernel
open Cert.KernelIdeal Cert.KernelIdeal.Gen Cert.KernelIdeal.Hand

/-- The kernel's product block, of operands that are a block of rows and a block of columns of the arguments. -/
theorem ker_dot (i : grid0.Coords) (a0 : FVec Ideal ⟨2, ![12288, 5376]⟩ .bf16) (a1 : FVec Ideal ⟨2, ![5376, 8192]⟩ .fp8e4m3) (a2 : FVec Ideal ⟨2, ![42, 64]⟩ .f32)
    (x0 : Vec Ideal S512x5376 .bf16) (x1 : Vec Ideal S5376x1024 .fp8e4m3)
    (y : Fin 512) (c : Fin 1024) (r : Fin 12288) (n : Fin 8192) (hn : n.val = 1024 * (i 1).val + c.val)
    (h0 : ∀ k : Fin 5376, x0 (ValueIdx.ix2 y k) = a0 (ValueIdx.ix2 r k))
    (h1 : ∀ k : Fin 5376, x1 (ValueIdx.ix2 k c) = a1 (ValueIdx.ix2 k n)) :
    k0_pay1 (F := Ideal) x0 (Wb i x1 a2) (ValueIdx.ix2 y c) = dot a0 a1 a2 r n := by
  unfold k0_pay1 dot
  refine (Ideal.matmul_plain_apply (M := 512) (K := 5376) (N := 1024) none x0 _ _ y c).trans ?_
  show Ideal.ofBits .f32 0x00000000#32 + _ = _
  rw [Ideal.ofBits_zero_f32, zero_add]
  refine Finset.sum_congr rfl fun k _ => ?_
  have hw : Wb (F := Ideal) i x1 a2 (ValueIdx.ix2 k c) = wt a1 a2 k n := by
    unfold Wb wt
    show x1 (ValueIdx.ix2 k c) * a2 _ = _
    rw [h1 k]
    refine congrArg (a1 (ValueIdx.ix2 k n) * a2 ·) ?_
    refine funext fun a => Fin.ext ?_
    fin_cases a
    · rfl
    · show 8 * (i 1).val + c.val / 128 = n.val / 128
      omega
  show x0 (ValueIdx.ix2 y k) * _ = _
  rw [h0 k]
  exact congrArg (a0 (ValueIdx.ix2 r k) * ·) hw

/-- The kernel's normalised head, element by element. -/
theorem ker_normed (v : FVec Ideal S512x128 .f32) (w : FVec Ideal S1x128 .f32) (y : Fin 512) (d : Fin 128) :
    normed v w (ValueIdx.ix2 y d) = nrm (fun k => v (ValueIdx.ix2 y k)) (w (ValueIdx.ix2 (0 : Fin 1) d)) d := by
  have hs : (multiReduction .add [1] S512 (mulf v v) 0x00000000#32 reduces_S512x128_S512 (.inl rfl) rfl : FVec Ideal S512 .f32) (ValueIdx.ix1 y)
      = ∑ k : Fin 128, v (ValueIdx.ix2 y k) * v (ValueIdx.ix2 y k) := by
    refine (Ideal.multiReduction_add_single _ _ _ _ _ _).trans (Finset.sum_congr rfl fun k _ => ?_)
    have e : reduces_S512x128_S512.lift (ValueIdx.ix1 y) k = ValueIdx.ix2 y k := by
      funext a; apply Fin.ext; fin_cases a <;> rfl
    rw [e]; rfl
  unfold normed nrm
  show FloatOps.mulf (F := Ideal) (φ := .f32) (FloatOps.mulf (F := Ideal) (φ := .f32) (v (ValueIdx.ix2 y d)) (broadcastTo S512x128 _ _ (ValueIdx.ix2 y d)))
    (broadcastTo S512x128 w _ (ValueIdx.ix2 y d)) = _
  congr 1
  · refine congrArg (FloatOps.mulf (F := Ideal) (φ := .f32) (v (ValueIdx.ix2 y d))) ?_
    refine (broadcastTo_apply _ _ _ (ValueIdx.ix2 y (0 : Fin 1)) fun a => by fin_cases a <;> rfl).trans ?_
    rw [← hs]
    refine congrArg (fun z => FloatOps.rsqrt (F := Ideal) (φ := .f32) (FloatOps.addf (F := Ideal) (φ := .f32)
      (FloatOps.divf (F := Ideal) (φ := .f32) z (Scalar.ofBits .f32 0x43000000#32)) (Scalar.ofBits .f32 0x358637BD#32))) ?_
    refine shapeCast_apply _ _ _ (ValueIdx.ix1 y) ?_
    rw [Shape.rowMajor_val_two, Shape.rowMajor_val_one]
    show y.val = y.val * 1 + 0
    omega
  · exact broadcastTo_apply _ _ _ (ValueIdx.ix2 (0 : Fin 1) d) fun a => by fin_cases a <;> rfl

end Kernel

end Cert.Proof.Hand

end
-- ==== Proof.Value.lean ====
module

public import proofs.«01_k».proof.Proof.Run
public import proofs.«01_k».proof.Proof.Math

@[expose] public section

set_option maxRecDepth 16384

noncomputable section

/-! What the kernel's three result arrays hold after the run, over the extended reals: the reference's functions of the
    kernel's arguments. -/

namespace Cert.Proof.Hand

open Cert.KernelIdeal Cert.KernelIdeal.Gen Cert.KernelIdeal.Hand
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

/-- The five arguments, as launched. -/
abbrev A0 : Vec Ideal S12288x5376 .bf16 := m ((c : Thread nD τ).loc main_arg0)
abbrev A1 : Vec Ideal S5376x8192 .fp8e4m3 := m ((c : Thread nD τ).loc main_arg1)
abbrev A2 : Vec Ideal S42x64 .f32 := m ((c : Thread nD τ).loc main_arg2)
abbrev A3 : Vec Ideal S128 .f32 := m ((c : Thread nD τ).loc main_arg3)
abbrev A4 : Vec Ideal S128 .f32 := m ((c : Thread nD τ).loc main_arg4)

/-! ## The windows' blocks -/

theorem coord1 : ∀ t : Fin cfg0.N, (grid0.coords t 1).val = t.val % 8 :=
  (by decide +kernel : ∀ t : Fin grid0.N, (grid0.coords t 1).val = t.val % 8)
theorem ix0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem ix1' : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
theorem ix2' : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem ix3' : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem ix4' : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem ix5' : ∀ t : Fin cfg0.N, win0_5.index t (0 : Fin 4) = t.val / 8 ∧ win0_5.index t (1 : Fin 4) = min (t.val % 8) 3
    ∧ win0_5.index t (2 : Fin 4) = 0 ∧ win0_5.index t (3 : Fin 4) = 0 :=
  (by decide +kernel : ∀ t : Fin grid0.N, win0_5.index t (0 : Fin 4) = t.val / 8 ∧ win0_5.index t (1 : Fin 4) = min (t.val % 8) 3
    ∧ win0_5.index t (2 : Fin 4) = 0 ∧ win0_5.index t (3 : Fin 4) = 0)
theorem ix6' : ∀ t : Fin cfg0.N, win0_6.index t (0 : Fin 4) = t.val / 8 ∧ win0_6.index t (1 : Fin 4) = min (t.val % 8 - 4) 1
    ∧ win0_6.index t (2 : Fin 4) = 0 ∧ win0_6.index t (3 : Fin 4) = 0 :=
  (by decide +kernel : ∀ t : Fin grid0.N, win0_6.index t (0 : Fin 4) = t.val / 8 ∧ win0_6.index t (1 : Fin 4) = min (t.val % 8 - 4) 1
    ∧ win0_6.index t (2 : Fin 4) = 0 ∧ win0_6.index t (3 : Fin 4) = 0)
theorem ix7' : ∀ t : Fin cfg0.N, win0_7.index t (0 : Fin 4) = t.val / 8 ∧ win0_7.index t (1 : Fin 4) = min (t.val % 8 - 6) 1
    ∧ win0_7.index t (2 : Fin 4) = 0 ∧ win0_7.index t (3 : Fin 4) = 0 :=
  (by decide +kernel : ∀ t : Fin grid0.N, win0_7.index t (0 : Fin 4) = t.val / 8 ∧ win0_7.index t (1 : Fin 4) = min (t.val % 8 - 6) 1
    ∧ win0_7.index t (2 : Fin 4) = 0 ∧ win0_7.index t (3 : Fin 4) = 0)

theorem rd0 (t : Fin cfg0.N) (y : Fin 512) (k : Fin 5376) (r : Fin 12288) (hr : r.val = 512 * (t.val / 8) + y.val) :
    (iblk m c 0 t : Vec Ideal S512x5376 .bf16) (ValueIdx.ix2 y k) = A0 m c (ValueIdx.ix2 r k) := by
  show V m c main_arg0 (((cfg0.win 0).blk t).view.emb (ValueIdx.ix2 y k)) = _
  rw [V_main_arg0]
  refine congrArg (A0 m c) (funext fun a => Fin.ext ?_)
  fin_cases a
  · show win0_0.index t (0 : Fin 2) * 512 + 1 * y.val = r.val
    rw [(ix0 t).1]; omega
  · show win0_0.index t (1 : Fin 2) * 5376 + 1 * k.val = k.val
    rw [(ix0 t).2]; omega

theorem rd1 (t : Fin cfg0.N) (k : Fin 5376) (x : Fin 1024) (n : Fin 8192) (hn : n.val = 1024 * (t.val % 8) + x.val) :
    (iblk m c 1 t : Vec Ideal S5376x1024 .fp8e4m3) (ValueIdx.ix2 k x) = A1 m c (ValueIdx.ix2 k n) := by
  show V m c main_arg1 (((cfg0.win 1).blk t).view.emb (ValueIdx.ix2 k x)) = _
  rw [V_main_arg1]
  refine congrArg (A1 m c) (funext fun a => Fin.ext ?_)
  fin_cases a
  · show win0_1.index t (0 : Fin 2) * 5376 + 1 * k.val = k.val
    rw [(ix1' t).1]; omega
  · show win0_1.index t (1 : Fin 2) * 1024 + 1 * x.val = n.val
    rw [(ix1' t).2]; omega

theorem rd2 (t : Fin cfg0.N) : (iblk m c 2 t : Vec Ideal S42x64 .f32) = A2 m c := by
  funext j
  show V m c main_arg2 (((cfg0.win 2).blk t).view.emb j) = _
  rw [V_main_arg2]
  refine congrArg (A2 m c) (funext fun a => Fin.ext ?_)
  fin_cases a
  · show win0_2.index t (0 : Fin 2) * 42 + 1 * (j 0).val = (j 0).val
    rw [(ix2' t).1]; omega
  · show win0_2.index t (1 : Fin 2) * 64 + 1 * (j 1).val = (j 1).val
    rw [(ix2' t).2]; omega

theorem rd3 (t : Fin cfg0.N) (d : Fin 128) : (iblk m c 3 t : Vec Ideal S1x128 .f32) (ValueIdx.ix2 (0 : Fin 1) d) = A3 m c (ValueIdx.ix1 d) := by
  show V m c main_v0 (((cfg0.win 3).blk t).view.emb (ValueIdx.ix2 (0 : Fin 1) d)) = _
  have e : ((cfg0.win 3).blk t).view.emb (ValueIdx.ix2 (0 : Fin 1) d) = ValueIdx.ix2 (0 : Fin 1) d := by
    refine funext fun a => Fin.ext ?_
    fin_cases a
    · show win0_3.index t (0 : Fin 2) * 1 + 1 * 0 = 0
      rw [(ix3' t).1]
    · show win0_3.index t (1 : Fin 2) * 128 + 1 * d.val = d.val
      rw [(ix3' t).2]; omega
  rw [e]
  entry_read
  refine shapeCast_apply _ _ _ (ValueIdx.ix1 d) ?_
  refine (Shape.rowMajor_val_one _).trans (Eq.trans ?_ (Shape.rowMajor_val_two (d := ![1, 128]) (ValueIdx.ix2 (0 : Fin 1) d)).symm)
  show d.val = 0 * 128 + d.val
  omega

theorem rd4 (t : Fin cfg0.N) (d : Fin 128) : (iblk m c 4 t : Vec Ideal S1x128 .f32) (ValueIdx.ix2 (0 : Fin 1) d) = A4 m c (ValueIdx.ix1 d) := by
  show V m c main_v1 (((cfg0.win 4).blk t).view.emb (ValueIdx.ix2 (0 : Fin 1) d)) = _
  have e : ((cfg0.win 4).blk t).view.emb (ValueIdx.ix2 (0 : Fin 1) d) = ValueIdx.ix2 (0 : Fin 1) d := by
    refine funext fun a => Fin.ext ?_
    fin_cases a
    · show win0_4.index t (0 : Fin 2) * 1 + 1 * 0 = 0
      rw [(ix4' t).1]
    · show win0_4.index t (1 : Fin 2) * 128 + 1 * d.val = d.val
      rw [(ix4' t).2]; omega
  rw [e]
  entry_read
  refine shapeCast_apply _ _ _ (ValueIdx.ix1 d) ?_
  refine (Shape.rowMajor_val_one _).trans (Eq.trans ?_ (Shape.rowMajor_val_two (d := ![1, 128]) (ValueIdx.ix2 (0 : Fin 1) d)).symm)
  show d.val = 0 * 128 + d.val
  omega

/-! ## The blocks a point computes, element by element -/

theorem Yb_at (t : Fin cfg0.N) (y : Fin 512) (x : Fin 1024) (r : Fin 12288) (hr : r.val = 512 * (t.val / 8) + y.val)
    (n : Fin 8192) (hn : n.val = 1024 * (t.val % 8) + x.val) :
    Yb m c t (ValueIdx.ix2 y x) = dot (A0 m c) (A1 m c) (A2 m c) r n := by
  unfold Yb
  rw [rd2]
  exact ker_dot (grid0.coords t) (A0 m c) (A1 m c) (A2 m c) (iblk m c 0 t) (iblk m c 1 t) y x r n (by rw [coord1]; exact hn)
    (fun k => rd0 m c t y k r hr) (fun k => rd1 m c t k x n hn)

theorem bq_at (t : Fin cfg0.N) (y : Fin 512) (h : Fin 8) (d : Fin 128) (r : Fin 12288) (hr : r.val = 512 * (t.val / 8) + y.val) :
    bq m c t (ValueIdx.ix4 y (0 : Fin 1) h d)
      = nrm (fun k => dot (A0 m c) (A1 m c) (A2 m c) r ⟨1024 * (t.val % 8) + (128 * h.val + k.val), by omega⟩) (A3 m c (ValueIdx.ix1 d)) d := by
  show normed (cols (Yb m c t) h) (iblk m c 3 t) (ValueIdx.ix2 y d) = _
  refine (ker_normed (cols (Yb m c t) h) (iblk m c 3 t) y d).trans ?_
  rw [rd3 m c t d]
  exact congrArg (nrm · _ d) (funext fun k => Yb_at m c t y ⟨128 * h.val + k.val, by omega⟩ r hr _ rfl)

theorem bk_at (t : Fin cfg0.N) (y : Fin 512) (h : Fin 8) (d : Fin 128) (r : Fin 12288) (hr : r.val = 512 * (t.val / 8) + y.val) :
    bk m c t (ValueIdx.ix4 y (0 : Fin 1) h d)
      = nrm (fun k => dot (A0 m c) (A1 m c) (A2 m c) r ⟨1024 * (t.val % 8) + (128 * h.val + k.val), by omega⟩) (A4 m c (ValueIdx.ix1 d)) d := by
  show normed (cols (Yb m c t) h) (iblk m c 4 t) (ValueIdx.ix2 y d) = _
  refine (ker_normed (cols (Yb m c t) h) (iblk m c 4 t) y d).trans ?_
  rw [rd4 m c t d]
  exact congrArg (nrm · _ d) (funext fun k => Yb_at m c t y ⟨128 * h.val + k.val, by omega⟩ r hr _ rfl)

theorem bv_at (t : Fin cfg0.N) (y : Fin 512) (h : Fin 8) (d : Fin 128) (r : Fin 12288) (hr : r.val = 512 * (t.val / 8) + y.val) :
    bv m c t (ValueIdx.ix4 y (0 : Fin 1) h d)
      = dot (A0 m c) (A1 m c) (A2 m c) r ⟨1024 * (t.val % 8) + (128 * h.val + d.val), by omega⟩ := by
  show Yb m c t (ValueIdx.ix2 y ⟨128 * h.val + d.val, _⟩) = _
  exact Yb_at m c t y ⟨128 * h.val + d.val, by omega⟩ r hr _ rfl

/-- An index of a result array's block, and an index of the array, by their coordinates. -/
theorem blk_eta (j : S512x1x8x128.Idx) : j = ValueIdx.ix4 (j 0) (0 : Fin 1) (j 2) (j 3) := by
  funext a
  apply Fin.ext
  fin_cases a
  · rfl
  · show (j 1).val = 0
    have := (j 1).isLt
    change _ < 1 at this
    omega
  · rfl
  · rfl

/-! ## The queries -/

/-- What a point writes back is its block of the reference's queries. -/
theorem flushed5 (t : Fin cfg0.N) (hf : (cfg0.win 5).flush t = true) :
    (dats m 0 c).flushed 5 t = ((cfg0.win 5).blk t).view.read (Elt Ideal) (Cert.ReferenceIdeal.Value.G5 (F := Ideal) (A0 m c) (A1 m c) (A2 m c) (A3 m c) (A4 m c)) := by
  show (cfg0.win 5).cut (grid0.coords t) ((dats m 0 c).after 5 t) = _
  rw [after_5]
  have hN : t.val < 192 := lt_of_lt_of_eq t.isLt cfgN
  rw [flush5] at hf
  replace hf := of_decide_eq_true hf
  funext j
  show bq m c (pq t) j = Cert.ReferenceIdeal.Value.G5 (F := Ideal) (A0 m c) (A1 m c) (A2 m c) (A3 m c) (A4 m c) (((cfg0.win 5).blk t).view.emb j)
  have hp : (pq t).val = 8 * (t.val / 8) + min (t.val % 8) 3 := rfl
  have hj0 : (j 0).val < 512 := (j 0).isLt
  have e : ((cfg0.win 5).blk t).view.emb j = ValueIdx.ix4 (⟨512 * (t.val / 8) + (j 0).val, by omega⟩ : Fin 12288)
      (⟨min (t.val % 8) 3, by omega⟩ : Fin 4) (j 2 : Fin 8) (j 3 : Fin 128) := by
    refine funext fun a => Fin.ext ?_
    fin_cases a
    · show win0_5.index t (0 : Fin 4) * 512 + 1 * (j 0).val = 512 * (t.val / 8) + (j 0).val
      rw [(ix5' t).1]; omega
    · show win0_5.index t (1 : Fin 4) * 1 + 1 * (j 1).val = min (t.val % 8) 3
      have := (j 1).isLt
      change _ < 1 at this
      rw [(ix5' t).2.1]; omega
    · show win0_5.index t (2 : Fin 4) * 8 + 1 * (j 2).val = (j 2).val
      rw [(ix5' t).2.2.1]; omega
    · show win0_5.index t (3 : Fin 4) * 128 + 1 * (j 3).val = (j 3).val
      rw [(ix5' t).2.2.2]; omega
  rw [e]
  refine Eq.trans ?_ (ref_q (A0 m c) (A1 m c) (A2 m c) (A3 m c) (A4 m c) _ _ _ _).symm
  refine (congrArg (bq m c (pq t)) (blk_eta j)).trans ((bq_at m c (pq t) (j 0) (j 2) (j 3) ⟨512 * (t.val / 8) + (j 0).val, by omega⟩ ?_).trans ?_)
  · show 512 * (t.val / 8) + (j 0).val = 512 * ((pq t).val / 8) + (j 0).val
    rw [hp]; omega
  · refine congrArg (nrm · _ _) (funext fun k => congrArg (dot (A0 m c) (A1 m c) (A2 m c) _) (Fin.ext ?_))
    show 1024 * ((pq t).val % 8) + (128 * (j 2).val + k.val) = 128 * (8 * (min (t.val % 8) 3) + (j 2).val) + k.val
    rw [hp]; omega

/-- Every index of the array is in a block some point writes back. -/
theorem covered5 (i : S12288x4x8x128.Idx) : ∃ t : Fin cfg0.N, (cfg0.win 5).flush t = true ∧ i ∈ ((cfg0.win 5).blk t).view.set := by
  have h0 : (i 0).val < 12288 := (i 0).isLt
  have h1 : (i 1).val < 4 := (i 1).isLt
  obtain ⟨t, ht⟩ : ∃ t : Fin cfg0.N, t.val = 8 * ((i 0).val / 512) + (if (i 1).val = 3 then 7 else (i 1).val) :=
    ⟨⟨8 * ((i 0).val / 512) + (if (i 1).val = 3 then 7 else (i 1).val), by rw [cfgN]; split <;> omega⟩, rfl⟩
  refine ⟨t, ?_, ?_⟩
  · rw [flush5, decide_eq_true_eq]
    split at ht <;> omega
  · have h := ((cfg0.win 5).blk t).view.emb_mem_set (ValueIdx.ix4 (⟨(i 0).val % 512, by omega⟩ : Fin 512) (0 : Fin 1) (i 2 : Fin 8) (i 3 : Fin 128))
    refine (congrArg (· ∈ ((cfg0.win 5).blk t).view.set) (funext fun a => Fin.ext ?_)).mp h
    fin_cases a
    · show win0_5.index t (0 : Fin 4) * 512 + 1 * ((i 0).val % 512) = (i 0).val
      rw [(ix5' t).1]; split at ht <;> omega
    · show win0_5.index t (1 : Fin 4) * 1 + 1 * 0 = (i 1).val
      rw [(ix5' t).2.1]; split at ht <;> omega
    · show win0_5.index t (2 : Fin 4) * 8 + 1 * (i 2).val = (i 2).val
      rw [(ix5' t).2.2.1]; omega
    · show win0_5.index t (3 : Fin 4) * 128 + 1 * (i 3).val = (i 3).val
      rw [(ix5' t).2.2.2]; omega

/-- The array of queries after the run. -/
theorem final5 : (dats m 0 c).arrAt 5 cfg0.N = Cert.ReferenceIdeal.Value.G5 (F := Ideal) (A0 m c) (A1 m c) (A2 m c) (A3 m c) (A4 m c) :=
  (dats m 0 c).arrAt_eq_of_cover 5 (Cert.ReferenceIdeal.Value.G5 (F := Ideal) (A0 m c) (A1 m c) (A2 m c) (A3 m c) (A4 m c)) (fun t hf => flushed5 m c t hf) covered5

/-! ## The keys -/

/-- What a point writes back is its block of the reference's keys. -/
theorem flushed6 (t : Fin cfg0.N) (hf : (cfg0.win 6).flush t = true) :
    (dats m 0 c).flushed 6 t = ((cfg0.win 6).blk t).view.read (Elt Ideal) (Cert.ReferenceIdeal.Value.G6 (F := Ideal) (A0 m c) (A1 m c) (A2 m c) (A3 m c) (A4 m c)) := by
  show (cfg0.win 6).cut (grid0.coords t) ((dats m 0 c).after 6 t) = _
  rw [after_6]
  have hN : t.val < 192 := lt_of_lt_of_eq t.isLt cfgN
  rw [flush6] at hf
  replace hf := of_decide_eq_true hf
  funext j
  show bk m c (pk t) j = Cert.ReferenceIdeal.Value.G6 (F := Ideal) (A0 m c) (A1 m c) (A2 m c) (A3 m c) (A4 m c) (((cfg0.win 6).blk t).view.emb j)
  have hp : (pk t).val = 8 * (t.val / 8) + min (t.val % 8) 5 := rfl
  have hj0 : (j 0).val < 512 := (j 0).isLt
  have e : ((cfg0.win 6).blk t).view.emb j = ValueIdx.ix4 (⟨512 * (t.val / 8) + (j 0).val, by omega⟩ : Fin 12288)
      (⟨min (t.val % 8 - 4) 1, by omega⟩ : Fin 2) (j 2 : Fin 8) (j 3 : Fin 128) := by
    refine funext fun a => Fin.ext ?_
    fin_cases a
    · show win0_6.index t (0 : Fin 4) * 512 + 1 * (j 0).val = 512 * (t.val / 8) + (j 0).val
      rw [(ix6' t).1]; omega
    · show win0_6.index t (1 : Fin 4) * 1 + 1 * (j 1).val = min (t.val % 8 - 4) 1
      have := (j 1).isLt
      change _ < 1 at this
      rw [(ix6' t).2.1]; omega
    · show win0_6.index t (2 : Fin 4) * 8 + 1 * (j 2).val = (j 2).val
      rw [(ix6' t).2.2.1]; omega
    · show win0_6.index t (3 : Fin 4) * 128 + 1 * (j 3).val = (j 3).val
      rw [(ix6' t).2.2.2]; omega
  rw [e]
  refine Eq.trans ?_ (ref_k (A0 m c) (A1 m c) (A2 m c) (A3 m c) (A4 m c) _ _ _ _).symm
  refine (congrArg (bk m c (pk t)) (blk_eta j)).trans ((bk_at m c (pk t) (j 0) (j 2) (j 3) ⟨512 * (t.val / 8) + (j 0).val, by omega⟩ ?_).trans ?_)
  · show 512 * (t.val / 8) + (j 0).val = 512 * ((pk t).val / 8) + (j 0).val
    rw [hp]; omega
  · refine congrArg (nrm · _ _) (funext fun k => congrArg (dot (A0 m c) (A1 m c) (A2 m c) _) (Fin.ext ?_))
    show 1024 * ((pk t).val % 8) + (128 * (j 2).val + k.val) = 4096 + (128 * (8 * (min (t.val % 8 - 4) 1) + (j 2).val) + k.val)
    rw [hp]; omega

/-- Every index of the array is in a block some point writes back. -/
theorem covered6 (i : S12288x2x8x128.Idx) : ∃ t : Fin cfg0.N, (cfg0.win 6).flush t = true ∧ i ∈ ((cfg0.win 6).blk t).view.set := by
  have h0 : (i 0).val < 12288 := (i 0).isLt
  have h1 : (i 1).val < 2 := (i 1).isLt
  obtain ⟨t, ht⟩ : ∃ t : Fin cfg0.N, t.val = 8 * ((i 0).val / 512) + (if (i 1).val = 1 then 7 else 4) :=
    ⟨⟨8 * ((i 0).val / 512) + (if (i 1).val = 1 then 7 else 4), by rw [cfgN]; split <;> omega⟩, rfl⟩
  refine ⟨t, ?_, ?_⟩
  · rw [flush6, decide_eq_true_eq]
    split at ht <;> omega
  · have h := ((cfg0.win 6).blk t).view.emb_mem_set (ValueIdx.ix4 (⟨(i 0).val % 512, by omega⟩ : Fin 512) (0 : Fin 1) (i 2 : Fin 8) (i 3 : Fin 128))
    refine (congrArg (· ∈ ((cfg0.win 6).blk t).view.set) (funext fun a => Fin.ext ?_)).mp h
    fin_cases a
    · show win0_6.index t (0 : Fin 4) * 512 + 1 * ((i 0).val % 512) = (i 0).val
      rw [(ix6' t).1]; split at ht <;> omega
    · show win0_6.index t (1 : Fin 4) * 1 + 1 * 0 = (i 1).val
      rw [(ix6' t).2.1]; split at ht <;> omega
    · show win0_6.index t (2 : Fin 4) * 8 + 1 * (i 2).val = (i 2).val
      rw [(ix6' t).2.2.1]; omega
    · show win0_6.index t (3 : Fin 4) * 128 + 1 * (i 3).val = (i 3).val
      rw [(ix6' t).2.2.2]; omega

/-- The array of keys after the run. -/
theorem final6 : (dats m 0 c).arrAt 6 cfg0.N = Cert.ReferenceIdeal.Value.G6 (F := Ideal) (A0 m c) (A1 m c) (A2 m c) (A3 m c) (A4 m c) :=
  (dats m 0 c).arrAt_eq_of_cover 6 (Cert.ReferenceIdeal.Value.G6 (F := Ideal) (A0 m c) (A1 m c) (A2 m c) (A3 m c) (A4 m c)) (fun t hf => flushed6 m c t hf) covered6

/-! ## The values -/

/-- What a point writes back is its block of the reference's values. -/
theorem flushed7 (t : Fin cfg0.N) (hf : (cfg0.win 7).flush t = true) :
    (dats m 0 c).flushed 7 t = ((cfg0.win 7).blk t).view.read (Elt Ideal) (Cert.ReferenceIdeal.Value.G7 (F := Ideal) (A0 m c) (A1 m c) (A2 m c) (A3 m c) (A4 m c)) := by
  show (cfg0.win 7).cut (grid0.coords t) ((dats m 0 c).after 7 t) = _
  rw [after_7]
  have hN : t.val < 192 := lt_of_lt_of_eq t.isLt cfgN
  rw [flush7] at hf
  replace hf := of_decide_eq_true hf
  funext j
  show bv m c (t) j = Cert.ReferenceIdeal.Value.G7 (F := Ideal) (A0 m c) (A1 m c) (A2 m c) (A3 m c) (A4 m c) (((cfg0.win 7).blk t).view.emb j)
  have hj0 : (j 0).val < 512 := (j 0).isLt
  have e : ((cfg0.win 7).blk t).view.emb j = ValueIdx.ix4 (⟨512 * (t.val / 8) + (j 0).val, by omega⟩ : Fin 12288)
      (⟨min (t.val % 8 - 6) 1, by omega⟩ : Fin 2) (j 2 : Fin 8) (j 3 : Fin 128) := by
    refine funext fun a => Fin.ext ?_
    fin_cases a
    · show win0_7.index t (0 : Fin 4) * 512 + 1 * (j 0).val = 512 * (t.val / 8) + (j 0).val
      rw [(ix7' t).1]; omega
    · show win0_7.index t (1 : Fin 4) * 1 + 1 * (j 1).val = min (t.val % 8 - 6) 1
      have := (j 1).isLt
      change _ < 1 at this
      rw [(ix7' t).2.1]; omega
    · show win0_7.index t (2 : Fin 4) * 8 + 1 * (j 2).val = (j 2).val
      rw [(ix7' t).2.2.1]; omega
    · show win0_7.index t (3 : Fin 4) * 128 + 1 * (j 3).val = (j 3).val
      rw [(ix7' t).2.2.2]; omega
  rw [e]
  refine Eq.trans ?_ (ref_v (A0 m c) (A1 m c) (A2 m c) (A3 m c) (A4 m c) _ _ _ _).symm
  refine (congrArg (bv m c t) (blk_eta j)).trans ((bv_at m c t (j 0) (j 2) (j 3) ⟨512 * (t.val / 8) + (j 0).val, by omega⟩ ?_).trans ?_)
  · show 512 * (t.val / 8) + (j 0).val = 512 * (t.val / 8) + (j 0).val
    omega
  · refine congrArg (dot (A0 m c) (A1 m c) (A2 m c) _) (Fin.ext ?_)
    show 1024 * (t.val % 8) + (128 * (j 2).val + (j 3).val) = 6144 + (128 * (8 * (min (t.val % 8 - 6) 1) + (j 2).val) + (j 3).val)
    omega

/-- Every index of the array is in a block some point writes back. -/
theorem covered7 (i : S12288x2x8x128.Idx) : ∃ t : Fin cfg0.N, (cfg0.win 7).flush t = true ∧ i ∈ ((cfg0.win 7).blk t).view.set := by
  have h0 : (i 0).val < 12288 := (i 0).isLt
  have h1 : (i 1).val < 2 := (i 1).isLt
  obtain ⟨t, ht⟩ : ∃ t : Fin cfg0.N, t.val = 8 * ((i 0).val / 512) + 6 + (i 1).val :=
    ⟨⟨8 * ((i 0).val / 512) + 6 + (i 1).val, by rw [cfgN]; omega⟩, rfl⟩
  refine ⟨t, ?_, ?_⟩
  · rw [flush7, decide_eq_true_eq]
    omega
  · have h := ((cfg0.win 7).blk t).view.emb_mem_set (ValueIdx.ix4 (⟨(i 0).val % 512, by omega⟩ : Fin 512) (0 : Fin 1) (i 2 : Fin 8) (i 3 : Fin 128))
    refine (congrArg (· ∈ ((cfg0.win 7).blk t).view.set) (funext fun a => Fin.ext ?_)).mp h
    fin_cases a
    · show win0_7.index t (0 : Fin 4) * 512 + 1 * ((i 0).val % 512) = (i 0).val
      rw [(ix7' t).1]; omega
    · show win0_7.index t (1 : Fin 4) * 1 + 1 * 0 = (i 1).val
      rw [(ix7' t).2.1]; omega
    · show win0_7.index t (2 : Fin 4) * 8 + 1 * (i 2).val = (i 2).val
      rw [(ix7' t).2.2.1]; omega
    · show win0_7.index t (3 : Fin 4) * 128 + 1 * (i 3).val = (i 3).val
      rw [(ix7' t).2.2.2]; omega

/-- The array of values after the run. -/
theorem final7 : (dats m 0 c).arrAt 7 cfg0.N = Cert.ReferenceIdeal.Value.G7 (F := Ideal) (A0 m c) (A1 m c) (A2 m c) (A3 m c) (A4 m c) :=
  (dats m 0 c).arrAt_eq_of_cover 7 (Cert.ReferenceIdeal.Value.G7 (F := Ideal) (A0 m c) (A1 m c) (A2 m c) (A3 m c) (A4 m c)) (fun t hf => flushed7 m c t hf) covered7

/-! ## The run -/

variable (ρ : Dev nD → PrngReg)

/-- After the run the three results are the reference's functions of the arguments, and the arguments are as launched. -/
theorem run : θ_run defs (onTc (τ := τ) (main (F := Ideal))) ⟨m, fun _ => 0, ρ⟩ fun r => ∀ c : Dev nD,
      r.2.mem ((c.tc : Thread nD τ).loc main_v2_0) = Cert.ReferenceIdeal.Value.G5 (F := Ideal) (A0 m c) (A1 m c) (A2 m c) (A3 m c) (A4 m c)
      ∧ r.2.mem ((c.tc : Thread nD τ).loc main_v2_1) = Cert.ReferenceIdeal.Value.G6 (F := Ideal) (A0 m c) (A1 m c) (A2 m c) (A3 m c) (A4 m c)
      ∧ r.2.mem ((c.tc : Thread nD τ).loc main_v2_2) = Cert.ReferenceIdeal.Value.G7 (F := Ideal) (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans (final5 m c), ((h.1 c).1 6).trans (final6 m c), ((h.1 c).1 7).trans (final7 m c), h.2 c⟩)
    (θ_run_and (run_main m ρ) (unchanged m ρ))

end Cert.Proof.Hand

end
-- ==== Proof.QuantScale.lean ====
module

public import Idealize.ShloMosaic.PureOps.Ideal.Laws
public import Idealize.ShloMosaic.Lib.IdealHost
public import Idealize.ShloMosaic.Lib.SortNet.Extract

@[expose] public section

noncomputable section

/-! The scale of one group. The kernel finds it as an exponent field: the largest of 252 words `k · 2^23` whose float is
    at most the group's share, moved up by one exponent, and the reciprocal from the difference of exponent fields. The
    reference takes the largest power of two at most that share, doubles it, and divides. Here: both are the same
    extended reals. -/

namespace Cert.QuantIdeal.Hand

open Idealize.ShloMosaic

/-- The word with exponent field `j + 1` and nothing else. -/
def word (j : Fin 252) : BitVec 32 := IntOp.shli .vector (IntOp.addi (BitVec.ofNat 32 j.val) 1#32) 23#32

/-- The largest of the words whose float is at most `a`, or zero. -/
def field (a : EReal) : BitVec 32 :=
  Finset.univ.fold IntOp.maxsi 2147483648#32 fun j : Fin 252 => if Ideal.ofBits .f32 (word j) ≤ a then word j else 0#32

/-- The power of two with exponent `j - 126`. -/
def pow (j : Fin 252) : EReal := Ideal.exp2 ((((BitVec.ofNat 32 j.val).toInt : ℝ) : EReal) - Ideal.ofBits .f32 0x42FC0000#32)

/-- The largest of the powers of two that is at most `a`, or zero. -/
def below (a : EReal) : EReal :=
  Finset.univ.fold max (Ideal.ofBits .f32 0xFF800000#32) fun j : Fin 252 => if pow j ≤ a then pow j else 0

/-- The scale's word: that of one where no power of two is at most the share, else one exponent more. -/
def sbits (t : BitVec 32) : BitVec 32 := if t = 0#32 then 1065353216#32 else t + 8388608#32

/-- The reference's scale. -/
def scale (a : EReal) : EReal := if below a = 0 then 1 else below a * Ideal.ofBits .f32 0x40000000#32

theorem word_eq : ∀ j : Fin 252, word j = BitVec.ofNat 32 ((j.val + 1) * 2 ^ 23) := by decide +kernel

theorem word_toInt : ∀ j : Fin 252, (word j).toInt = ((j.val + 1) * 2 ^ 23 : ℕ) := by decide +kernel

theorem exponent_parts : ∀ n : Fin 255, (BitVec.ofNat 32 (n.val * 2 ^ 23)).extractLsb' 31 1 = 0#1
    ∧ ((BitVec.ofNat 32 (n.val * 2 ^ 23)).extractLsb' 23 8).toNat = n.val
    ∧ ((BitVec.ofNat 32 (n.val * 2 ^ 23)).extractLsb' 0 23).toNat = 0 := by decide +kernel

/-- A word that is an exponent field `n` alone reads as two to the `n - 127`. -/
theorem ofBits_exponent (n : ℕ) (h0 : 0 < n) (h1 : n < 255) :
    Ideal.ofBits .f32 (BitVec.ofNat 32 (n * 2 ^ 23)) = (((2 : ℝ) ^ ((n : ℤ) - 127) : ℝ) : EReal) := by
  obtain ⟨e0, e1, e2⟩ := exponent_parts ⟨n, h1⟩
  show Ideal.ieee 8 23 (BitVec.ofNat 32 (n * 2 ^ 23)) = _
  unfold Ideal.ieee
  simp only at e0 e1 e2
  simp only [show (8 + 23 : ℕ) = 31 from rfl, e0, e1, e2]
  rw [if_neg (by omega), if_neg (by omega)]
  refine congrArg _ ?_
  have : ((n : ℤ) - (2 ^ (8 - 1) - 1) - (23 : ℕ) : ℤ) = ((n : ℤ) - 127) - 23 := by norm_num
  rw [this, zpow_sub₀ (by norm_num) _ 23]
  norm_num
  ring

theorem ofBits_word (j : Fin 252) : Ideal.ofBits .f32 (word j) = (((2 : ℝ) ^ ((j.val : ℤ) - 126) : ℝ) : EReal) := by
  rw [word_eq, ofBits_exponent _ (by omega) (by have := j.isLt; omega)]
  refine congrArg (fun z : ℤ => (((2 : ℝ) ^ z : ℝ) : EReal)) ?_
  push_cast; ring

theorem ofBits_126 : Ideal.ofBits .f32 0x42FC0000#32 = ((126 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_bot : Ideal.ofBits .f32 0xFF800000#32 = ⊥ := by
  simp [Ideal.ofBits, Ideal.ieee]

theorem ofNat_toInt : ∀ j : Fin 252, (BitVec.ofNat 32 j.val).toInt = j.val := by decide +kernel

theorem pow_eq (j : Fin 252) : pow j = (((2 : ℝ) ^ ((j.val : ℤ) - 126) : ℝ) : EReal) := by
  unfold pow
  rw [ofBits_126, ofNat_toInt, ← EReal.coe_sub, Ideal.exp2_coe]
  refine congrArg _ ?_
  show (2 : ℝ) ^ (((j.val : ℤ) : ℝ) - 126) = _
  rw [← Real.rpow_intCast]
  push_cast
  rfl

theorem pow_pos (j : Fin 252) : 0 < pow j := by
  rw [pow_eq]; exact EReal.coe_pos.mpr (zpow_pos (by norm_num) _)

theorem pow_mono {i j : Fin 252} (h : i ≤ j) : pow i ≤ pow j := by
  rw [pow_eq, pow_eq]
  refine EReal.coe_le_coe_iff.mpr (zpow_le_zpow_right₀ (by norm_num) ?_)
  have : i.val ≤ j.val := h
  omega

/-- With no power of two at most `a`, both searches give zero. -/
theorem none_below (a : EReal) (h : ∀ j, ¬pow j ≤ a) : field a = 0#32 ∧ below a = 0 := by
  have e : ∀ j, Ideal.ofBits .f32 (word j) = pow j := fun j => by rw [ofBits_word, pow_eq]
  constructor
  · unfold field
    obtain ⟨-, h2, h3⟩ := SortNet.fold_maxsi_spec (fun j : Fin 252 => if Ideal.ofBits .f32 (word j) ≤ a then word j else 0#32) Finset.univ 2147483648#32
    have h2 := h2 0 (Finset.mem_univ _)
    rcases h3 with h3 | ⟨i, -, h3⟩
    · rw [h3] at h2
      simp only [e, if_neg (h 0)] at h2
      exact absurd h2 (by decide)
    · rw [h3, e, if_neg (h i)]
  · unfold below
    refine le_antisymm (Finset.fold_max_le _ |>.mpr ⟨by rw [ofBits_bot]; exact bot_le, fun j _ => by rw [if_neg (h j)]⟩)
      (Finset.le_fold_max _ |>.mpr (Or.inr ⟨0, Finset.mem_univ _, by rw [if_neg (h 0)]⟩))

/-- With a largest power of two at most `a`, both searches find it. -/
theorem some_below (a : EReal) (j : Fin 252) (hj : pow j ≤ a) (hmax : ∀ i, pow i ≤ a → i ≤ j) : field a = word j ∧ below a = pow j := by
  have e : ∀ j, Ideal.ofBits .f32 (word j) = pow j := fun j => by rw [ofBits_word, pow_eq]
  constructor
  · unfold field
    obtain ⟨-, h2, h3⟩ := SortNet.fold_maxsi_spec (fun j : Fin 252 => if Ideal.ofBits .f32 (word j) ≤ a then word j else 0#32) Finset.univ 2147483648#32
    have h2 := h2 j (Finset.mem_univ _)
    simp only [e, if_pos hj, word_toInt] at h2
    simp only [e] at h3 ⊢
    rcases h3 with h3 | ⟨i, -, h3⟩
    · rw [h3] at h2
      have : ((j.val + 1) * 2 ^ 23 : ℕ) ≤ (-2147483648 : ℤ) := h2
      omega
    · rw [h3] at h2 ⊢
      by_cases hi : pow i ≤ a
      · rw [if_pos hi, word_toInt] at h2
        have h4 : i.val ≤ j.val := hmax i hi
        have h5 : i = j := Fin.ext (by have : ((j.val + 1) * 2 ^ 23 : ℕ) ≤ ((i.val + 1) * 2 ^ 23 : ℕ) := by exact_mod_cast h2
                                       omega)
        rw [if_pos hi, h5]
      · rw [if_neg hi] at h2
        have : ((j.val + 1) * 2 ^ 23 : ℕ) ≤ (0 : ℤ) := h2
        omega
  · unfold below
    refine le_antisymm (Finset.fold_max_le _ |>.mpr ⟨by rw [ofBits_bot]; exact bot_le, fun i _ => ?_⟩)
      (Finset.le_fold_max _ |>.mpr (Or.inr ⟨j, Finset.mem_univ _, by rw [if_pos hj]⟩))
    by_cases hi : pow i ≤ a
    · rw [if_pos hi]; exact pow_mono (hmax i hi)
    · rw [if_neg hi]; exact (pow_pos j).le

theorem sbits_word : ∀ j : Fin 252, sbits (word j) = BitVec.ofNat 32 ((j.val + 2) * 2 ^ 23)
    ∧ 2130706432#32 - sbits (word j) = BitVec.ofNat 32 ((252 - j.val) * 2 ^ 23) := by decide +kernel

/-- The kernel's scale is the reference's, and multiplying by the kernel's reciprocal is dividing by it. -/
theorem scale_eq (a : EReal) : Ideal.ofBits .f32 (sbits (field a)) = scale a
    ∧ ∀ h : EReal, h * Ideal.ofBits .f32 (2130706432#32 - sbits (field a)) = Ideal.div h (scale a) := by
  by_cases hex : ∃ j, pow j ≤ a
  · obtain ⟨j, hj, hmax⟩ : ∃ j, pow j ≤ a ∧ ∀ i, pow i ≤ a → i ≤ j := by
      have hne : (Finset.univ.filter fun j => pow j ≤ a).Nonempty := by
        obtain ⟨j, hj⟩ := hex
        exact ⟨j, Finset.mem_filter.mpr ⟨Finset.mem_univ _, hj⟩⟩
      refine ⟨(Finset.univ.filter fun j => pow j ≤ a).max' hne, (Finset.mem_filter.mp (Finset.max'_mem _ hne)).2,
        fun i hi => Finset.le_max' _ i (Finset.mem_filter.mpr ⟨Finset.mem_univ _, hi⟩)⟩
    obtain ⟨hf, hb⟩ := some_below a j hj hmax
    have hlt := j.isLt
    have hs : scale a = (((2 : ℝ) ^ ((j.val : ℤ) - 125) : ℝ) : EReal) := by
      unfold scale
      rw [hb, if_neg (pow_pos j).ne', pow_eq, ofBits_two, ← EReal.coe_mul]
      refine congrArg _ ?_
      rw [show (j.val : ℤ) - 125 = ((j.val : ℤ) - 126) + 1 by ring, zpow_add_one₀ (by norm_num)]
    obtain ⟨s1, s2⟩ := sbits_word j
    rw [hf, hs]
    refine ⟨?_, fun h => ?_⟩
    · rw [s1, ofBits_exponent _ (by omega) (by omega)]
      refine congrArg (fun z : ℤ => (((2 : ℝ) ^ z : ℝ) : EReal)) ?_
      push_cast; ring
    · rw [s2, ofBits_exponent _ (by omega) (by omega)]
      have hp : (0 : ℝ) < (2 : ℝ) ^ ((j.val : ℤ) - 125) := zpow_pos (by norm_num) _
      unfold Ideal.div
      rw [if_neg (by exact_mod_cast hp.ne'), ← EReal.coe_inv, ← zpow_neg]
      refine congrArg (fun z : ℤ => h * (((2 : ℝ) ^ z : ℝ) : EReal)) ?_
      rw [Nat.cast_sub (by omega)]; push_cast; ring
  · obtain ⟨hf, hb⟩ := none_below a (fun j hj => hex ⟨j, hj⟩)
    have hs : scale a = 1 := by unfold scale; rw [if_pos hb]
    have s1 : sbits 0#32 = 0x3F800000#32 := by decide
    have s2 : 2130706432#32 - (0x3F800000#32 : BitVec 32) = 0x3F800000#32 := by decide
    rw [hf, hs, s1, s2, Ideal.ofBits_one_f32]
    refine ⟨rfl, fun h => ?_⟩
    unfold Ideal.div
    rw [if_neg one_ne_zero, inv_one]

end Cert.QuantIdeal.Hand

end
-- ==== Proof.QuantRow.lean ====
module

public import proofs.«01_k».proof.Proof.QuantScale
public import Idealize.ShloMosaic.PureOps.Ideal.Laws

@[expose] public section

noncomputable section

/-! The quantised row, element by element: what one row `x` of activations and the weights `w` become. -/

namespace Cert.QuantIdeal.Hand

open Idealize.ShloMosaic

/-- The reciprocal root of the row's mean square. -/
def rroot (x : Fin 5376 → EReal) : EReal :=
  Ideal.rsqrt ((∑ k, x k * x k) * Ideal.ofBits .f32 0x39430C31#32 + Ideal.ofBits .f32 0x358637BD#32)

/-- The normalised row. -/
def hrow (x w : Fin 5376 → EReal) (c : Fin 5376) : EReal := x c * rroot x * w c

/-- The largest absolute value of group `g` of 128 columns, divided by the largest fp8 value. -/
def share (x w : Fin 5376 → EReal) (g : Fin 42) : EReal :=
  (Finset.univ.fold max (Ideal.ofBits .f32 0xFF800000#32) fun l : Fin 128 =>
    FloatOps.absf (F := Ideal) (φ := .f32) (hrow x w ⟨128 * g.val + l.val, by omega⟩)) * Ideal.ofBits .f32 0x3B124925#32

/-- The scale of group `g`. -/
def srow (x w : Fin 5376 → EReal) (g : Fin 42) : EReal := scale (share x w g)

/-- The code of column `c`. -/
def crow (x w : Fin 5376 → EReal) (c : Fin 5376) : EReal :=
  min (Ideal.ofBits .f32 0x43E00000#32) (max (Ideal.ofBits .f32 0xC3E00000#32)
    (Ideal.div (hrow x w c) (srow x w ⟨c.val / 128, by omega⟩)))

/-- The dequantised value of column `c`. -/
def brow (x w : Fin 5376 → EReal) (c : Fin 5376) : EReal := crow x w c * srow x w ⟨c.val / 128, by omega⟩

theorem select_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- A float maximum over one axis, its terms given one by one. -/
theorem max_single {s t : Shape} {a : Fin s.rank} {φ : FTy} (src : FVec Ideal s φ) (acc : BitVec φ.bits) (h : s.Reduces [a] t)
    (hφ : FKind.Formats φ) (hacc : acc = FKind.maximumf.neutral φ hφ) (j : t.Idx) (n : ℕ) (hn : s.size a = n) (f : Fin n → EReal)
    (hf : ∀ l, src (h.lift j l) = f (Fin.cast hn l)) :
    multiReduction .maximumf [a] t src acc h hφ hacc j = Finset.univ.fold max (Ideal.ofBits φ acc) f := by
  subst hn
  exact (Ideal.multiReduction_maximumf_single src acc h hφ hacc j).trans (Finset.fold_congr fun l _ => hf l)

/-- A sum over one axis, its terms given one by one. -/
theorem add_single {s t : Shape} {a : Fin s.rank} {φ : FTy} (src : FVec Ideal s φ) (acc : BitVec φ.bits) (h : s.Reduces [a] t)
    (hφ : FKind.Formats φ) (hacc : acc = FKind.add.neutral φ hφ) (j : t.Idx) (n : ℕ) (hn : s.size a = n) (f : Fin n → EReal)
    (hf : ∀ l, src (h.lift j l) = f (Fin.cast hn l)) :
    multiReduction .add [a] t src acc h hφ hacc j = ∑ l, f l := by
  subst hn
  exact (Ideal.multiReduction_add_single src acc h hφ hacc j).trans (Finset.sum_congr rfl fun l _ => hf l)

/-- A signed integer maximum over one axis, its terms given one by one. -/
theorem maxsi_single {s t : Shape} {a : Fin s.rank} (src : IVec s 32) (acc : BitVec 32) (h : s.Reduces [a] t)
    (hacc : acc = IKind.maxsi.neutral) (j : t.Idx) (n : ℕ) (hn : s.size a = n) (f : Fin n → BitVec 32)
    (hf : ∀ l, src (h.lift j l) = f (Fin.cast hn l)) :
    multiReductionI .maxsi [a] t src acc h hacc j = Finset.univ.fold IntOp.maxsi acc f := by
  subst hn
  rw [multiReductionI_eq_fold]
  exact (h.fold_filter_drop_single _ _ src j).trans (Finset.fold_congr fun l _ => hf l)

end Cert.QuantIdeal.Hand

end
-- ==== Proof.QuantGroup.lean ====
module

public import Idealize.ShloMosaic.Lib.ValueIdx
public import Idealize.ShloMosaic.Lib.Pipeline.Value
public import proofs.«01_k».proof.Proof.Gen.QuantIdeal.Skeleton
public import proofs.«01_k».proof.Proof.QuantRow

@[expose] public section

set_option maxRecDepth 16384

noncomputable section

/-! What the kernel's body computes of one group of 128 columns, element by element. -/

namespace Cert.QuantIdeal.Hand

open Cert.QuantIdeal Cert.QuantIdeal.Gen
open Idealize.ShloMosaic

variable {F : FTy → Type} [FloatOps F]

/-- The scales the body stores for one group, from the row factors and the group's columns. -/
def scalePiece (r : FVec F S256x1 .f32) (x : Vec F S256x128 .bf16) (w : Vec F S1x128 .f32) : FVec F S256x1 .f32 :=
  k0_pay270 (k0_pay267 r x w) k0_pay268 23#32

/-- The codes the body stores for one group. -/
def codePiece (r : FVec F S256x1 .f32) (x : Vec F S256x128 .bf16) (w : Vec F S1x128 .f32) : FVec F S256x128 .fp8e4m3 :=
  k0_pay271 (k0_pay266 r x w) (k0_pay267 r x w) k0_pay268 23#32

/-- The dequantised values the body stores for one group. -/
def valuePiece (r : FVec F S256x1 .f32) (x : Vec F S256x128 .bf16) (w : Vec F S1x128 .f32) : FVec F S256x128 .bf16 :=
  k0_pay272 (k0_pay266 r x w) (k0_pay267 r x w) k0_pay268 23#32

/-- The row factors: the reciprocal root of each row's mean square. -/
theorem root_apply (x : Vec Ideal S256x5376 .bf16) (i : Fin 256) :
    k0_pay1 (F := Ideal) x (ValueIdx.ix2 i (0 : Fin 1)) = rroot fun k => x (ValueIdx.ix2 i k) := by
  have hs := add_single (mulf (extf .f32 x bitsLt_bf16_f32) (extf .f32 x bitsLt_bf16_f32)) 0x00000000#32 reduces_S256x5376_S256 (.inl rfl) rfl
    (ValueIdx.ix1 i) 5376 rfl (fun k => x (ValueIdx.ix2 i k) * x (ValueIdx.ix2 i k)) fun k => by
      have e : reduces_S256x5376_S256.lift (ValueIdx.ix1 i) k = ValueIdx.ix2 i k := by
        funext a; apply Fin.ext; fin_cases a <;> rfl
      rw [e]; rfl
  unfold k0_pay1 rroot
  rw [← hs]
  refine congrArg (fun z : EReal => Ideal.rsqrt (z * Ideal.ofBits .f32 0x39430C31#32 + Ideal.ofBits .f32 0x358637BD#32)) ?_
  refine shapeCast_apply _ _ _ (ValueIdx.ix1 i) ?_
  rw [Shape.rowMajor_val_two, Shape.rowMajor_val_one]
  show i.val = i.val * 1 + 0
  omega

/-- The normalised columns of the group. -/
theorem group_apply (r : FVec Ideal S256x1 .f32) (x : Vec Ideal S256x128 .bf16) (w : Vec Ideal S1x128 .f32) (i : Fin 256) (l : Fin 128) :
    k0_pay266 (F := Ideal) r x w (ValueIdx.ix2 i l) = x (ValueIdx.ix2 i l) * r (ValueIdx.ix2 i (0 : Fin 1)) * w (ValueIdx.ix2 (0 : Fin 1) l) := by
  unfold k0_pay266
  rw [shapeCast_self]
  refine congrArg₂ (fun a b : EReal => x (ValueIdx.ix2 i l) * a * b) ?_ ?_
  · exact broadcastTo_apply _ _ _ (ValueIdx.ix2 i (0 : Fin 1)) fun a => by fin_cases a <;> rfl
  · exact broadcastTo_apply _ _ _ (ValueIdx.ix2 (0 : Fin 1) l) fun a => by fin_cases a <;> rfl

/-- The group's share, of any normalised columns. -/
theorem share_apply (v : FVec Ideal S256x128 .f32) (i : Fin 256) (f : Fin 128 → EReal) (hv : ∀ l : Fin 128, v (ValueIdx.ix2 i l) = f l) :
    mulf (F := Ideal) (shapeCast S256x1 (multiReduction .maximumf [1] S256 (absf v) 0xFF800000#32 reduces_S256x128_S256 (.inl rfl) rfl) shapeCasts_S256_S256x1)
        (broadcast S256x1 (Scalar.ofBits .f32 0x3B124925#32)) (ValueIdx.ix2 i (0 : Fin 1))
      = (Finset.univ.fold max (Ideal.ofBits .f32 0xFF800000#32) fun l : Fin 128 => FloatOps.absf (F := Ideal) (φ := .f32) (f l)) * Ideal.ofBits .f32 0x3B124925#32 := by
  refine congrArg (fun z : EReal => z * Ideal.ofBits .f32 0x3B124925#32) ?_
  refine (shapeCast_apply _ _ _ (ValueIdx.ix1 i) ?_).trans ?_
  · rw [Shape.rowMajor_val_two, Shape.rowMajor_val_one]
    show i.val = i.val * 1 + 0
    omega
  · exact max_single (absf v) _ _ _ _ (ValueIdx.ix1 i) 128 rfl _ fun l => by
      have e : reduces_S256x128_S256.lift (ValueIdx.ix1 i) l = ValueIdx.ix2 i (Fin.cast rfl l : Fin 128) := by
        funext a; apply Fin.ext; fin_cases a <;> rfl
      exact congrArg (FloatOps.absf (F := Ideal) (φ := .f32)) ((congrArg v e).trans (hv _))

/-- The words the kernel compares with. -/
theorem words_apply (l : Fin 252) :
    shli k0_pay268 (broadcast S1x252 23#32) (ValueIdx.ix2 (0 : Fin 1) l) = word l := by
  have hi : iota .tc S1x252 32 [1] iota_S1x252_d1_w32 (ValueIdx.ix2 (0 : Fin 1) l) = BitVec.ofNat 32 l.val := by
    show BitVec.ofNat 32 (0 * 252 + l.val) = _
    rw [Nat.zero_mul, Nat.zero_add]
  unfold k0_pay268 word
  show IntOp.shli .vector (IntOp.addi (iota .tc S1x252 32 [1] iota_S1x252_d1_w32 (ValueIdx.ix2 (0 : Fin 1) l)) 1#32) 23#32 = _
  rw [hi]

/-- The largest word whose float is at most the share, for any words and shares. -/
theorem field_apply (p : IVec S1x252 32) (P : FVec Ideal S256x1 .f32) (i : Fin 256) (a : EReal)
    (hp : ∀ l : Fin 252, p (ValueIdx.ix2 (0 : Fin 1) l) = word l) (hP : P (ValueIdx.ix2 i (0 : Fin 1)) = a) :
    shapeCast S256x1 (multiReductionI .maxsi [1] S256 (select (cmpf .ole (broadcastTo S256x252 (bitcastToFloat (F := Ideal) .f32 p) broadcasts_S1x252_S256x252)
        (broadcastTo S256x252 P broadcasts_S256x1_S256x252))
        (broadcastTo S256x252 (shapeCast S1x252 p shapeCasts_S1x252_S1x252) broadcasts_S1x252_S256x252)
        (broadcast S256x252 0#32)) 2147483648#32 reduces_S256x252_S256 rfl) shapeCasts_S256_S256x1 (ValueIdx.ix2 i (0 : Fin 1))
      = field a := by
  refine (shapeCast_apply _ _ _ (ValueIdx.ix1 i) ?_).trans ?_
  · rw [Shape.rowMajor_val_two, Shape.rowMajor_val_one]
    show i.val = i.val * 1 + 0
    omega
  · refine maxsi_single _ _ _ _ (ValueIdx.ix1 i) 252 rfl _ fun l => ?_
    have e : reduces_S256x252_S256.lift (ValueIdx.ix1 i) l = ValueIdx.ix2 i (Fin.cast rfl l : Fin 252) := by
      funext a; apply Fin.ext; fin_cases a <;> rfl
    refine (congrArg _ e).trans ?_
    suffices hk : ∀ l' : Fin 252, select (cmpf .ole (broadcastTo S256x252 (bitcastToFloat (F := Ideal) .f32 p) broadcasts_S1x252_S256x252)
        (broadcastTo S256x252 P broadcasts_S256x1_S256x252))
        (broadcastTo S256x252 (shapeCast S1x252 p shapeCasts_S1x252_S1x252) broadcasts_S1x252_S256x252)
        (broadcast S256x252 0#32) (ValueIdx.ix2 i l') = if Ideal.ofBits .f32 (word l') ≤ a then word l' else 0#32 from hk _
    intro l'
    have e1 : broadcastTo S256x252 (bitcastToFloat (F := Ideal) .f32 p) broadcasts_S1x252_S256x252 (ValueIdx.ix2 i l') = Ideal.ofBits .f32 (word l') :=
      (broadcastTo_apply _ _ _ (ValueIdx.ix2 (0 : Fin 1) l') fun a => by fin_cases a <;> rfl).trans (congrArg (Ideal.ofBits .f32) (hp l'))
    have e2 : broadcastTo S256x252 P broadcasts_S256x1_S256x252 (ValueIdx.ix2 i l') = a :=
      (broadcastTo_apply _ _ _ (ValueIdx.ix2 i (0 : Fin 1)) fun a => by fin_cases a <;> rfl).trans hP
    have e3 : broadcastTo S256x252 p broadcasts_S1x252_S256x252 (ValueIdx.ix2 i l') = word l' :=
      (broadcastTo_apply _ _ _ (ValueIdx.ix2 (0 : Fin 1) l') fun a => by fin_cases a <;> rfl).trans (hp l')
    rw [shapeCast_self]
    show Scalar.select (BitVec.ofBool (decide (broadcastTo S256x252 (bitcastToFloat (F := Ideal) .f32 p) broadcasts_S1x252_S256x252 (ValueIdx.ix2 i l')
      ≤ broadcastTo S256x252 P broadcasts_S256x1_S256x252 (ValueIdx.ix2 i l'))))
      (broadcastTo S256x252 p broadcasts_S1x252_S256x252 (ValueIdx.ix2 i l')) 0#32 = _
    rw [e1, e2, e3, select_ofBool]

/-- The scale's word, of any share. -/
theorem word_apply (P : FVec Ideal S256x1 .f32) (i : Fin 256) (a : EReal) (hP : P (ValueIdx.ix2 i (0 : Fin 1)) = a) :
    k0_pay269 (F := Ideal) P k0_pay268 23#32 (ValueIdx.ix2 i (0 : Fin 1)) = sbits (field a) := by
  have hf := field_apply (shli k0_pay268 (broadcast S1x252 23#32)) P i a words_apply hP
  unfold k0_pay269 sbits
  generalize shapeCast S256x1 (multiReductionI .maxsi [1] S256 (select (cmpf .ole (broadcastTo S256x252 (bitcastToFloat (F := Ideal) .f32 (shli k0_pay268 (broadcast S1x252 23#32))) broadcasts_S1x252_S256x252)
        (broadcastTo S256x252 P broadcasts_S256x1_S256x252))
        (broadcastTo S256x252 (shapeCast S1x252 (shli k0_pay268 (broadcast S1x252 23#32)) shapeCasts_S1x252_S1x252) broadcasts_S1x252_S256x252)
        (broadcast S256x252 0#32)) 2147483648#32 reduces_S256x252_S256 rfl) shapeCasts_S256_S256x1 = t at hf ⊢
  show Scalar.select (BitVec.ofBool (t (ValueIdx.ix2 i (0 : Fin 1)) == 0#32)) 1065353216#32 (t (ValueIdx.ix2 i (0 : Fin 1)) + 8388608#32) = _
  rw [hf]
  exact select_ofBool _ _ _

end Cert.QuantIdeal.Hand

end
-- ==== Proof.QuantBlock.lean ====
module

public import proofs.«01_k».proof.Proof.Gen.QuantIdeal.Value
public import proofs.«01_k».proof.Proof.QuantGroup
public import Idealize.ShloMosaic.Lib.ValueIdx
public import Idealize.ShloMosaic.Lib.Pipeline.Value

@[expose] public section

set_option maxRecDepth 16384

noncomputable section

/-! What the kernel's body leaves in its three staging buffers: every one of the 42 groups is the same function of its columns. -/

namespace Cert.QuantIdeal.Hand

open Cert.QuantIdeal Cert.QuantIdeal.Gen
open Idealize.ShloMosaic

/-- A row of a block. -/
abbrev xrow (x : Vec Ideal S256x5376 .bf16) (i : Fin 256) : Fin 5376 → EReal := fun k => x (ValueIdx.ix2 i k)

/-- The norm's weights. -/
abbrev wrow (w : Vec Ideal S1x5376 .f32) : Fin 5376 → EReal := fun k => w (ValueIdx.ix2 (0 : Fin 1) k)

theorem cols_inb (g : Fin 42) : ∀ a, (![0, 128 * g.val] : Fin 2 → Nat) a + S256x128.size a ≤ S256x5376.size a := fun a => by
  match a with
  | ⟨0, _⟩ => exact le_refl 256
  | ⟨1, _⟩ => show 128 * g.val + 128 ≤ 5376; omega

theorem weights_inb (g : Fin 42) : ∀ a, (![0, 128 * g.val] : Fin 2 → Nat) a + S1x128.size a ≤ S1x5376.size a := fun a => by
  match a with
  | ⟨0, _⟩ => exact le_refl 1
  | ⟨1, _⟩ => show 128 * g.val + 128 ≤ 5376; omega

theorem scales_inb (g : Fin 42) : ∀ a, (![0, g.val] : Fin 2 → Nat) a + S256x1.size a ≤ S256x42.size a := fun a => by
  match a with
  | ⟨0, _⟩ => exact le_refl 256
  | ⟨1, _⟩ => show g.val + 1 ≤ 42; omega

/-- A group's columns. -/
abbrev colsR (g : Fin 42) : Rect S256x5376 := Rect.unit (s := S256x5376) ![0, 128 * g.val] S256x128.size (cols_inb g)

/-- A group's weights. -/
abbrev weightsR (g : Fin 42) : Rect S1x5376 := Rect.unit (s := S1x5376) ![0, 128 * g.val] S1x128.size (weights_inb g)

/-- A group's column of scales. -/
abbrev scalesR (g : Fin 42) : Rect S256x42 := Rect.unit (s := S256x42) ![0, g.val] S256x1.size (scales_inb g)

theorem cols_emb (g : Fin 42) (i : Fin 256) (l : Fin 128) :
    (colsR g).emb (ValueIdx.ix2 i l) = ValueIdx.ix2 i (⟨128 * g.val + l.val, by omega⟩ : Fin 5376) := by
  funext a; apply Fin.ext
  match a with
  | ⟨0, _⟩ => show 0 + 1 * i.val = i.val; omega
  | ⟨1, _⟩ => show 128 * g.val + 1 * l.val = 128 * g.val + l.val; omega

theorem weights_emb (g : Fin 42) (l : Fin 128) :
    (weightsR g).emb (ValueIdx.ix2 (0 : Fin 1) l) = ValueIdx.ix2 (0 : Fin 1) (⟨128 * g.val + l.val, by omega⟩ : Fin 5376) := by
  funext a; apply Fin.ext
  match a with
  | ⟨0, _⟩ => rfl
  | ⟨1, _⟩ => show 128 * g.val + 1 * l.val = 128 * g.val + l.val; omega

theorem scales_emb (g : Fin 42) (i : Fin 256) :
    (scalesR g).emb (ValueIdx.ix2 i (0 : Fin 1)) = ValueIdx.ix2 i g := by
  funext a; apply Fin.ext
  match a with
  | ⟨0, _⟩ => show 0 + 1 * i.val = i.val; omega
  | ⟨1, _⟩ => show g.val + 1 * 0 = g.val; omega

/-- The whole block, loaded. -/
theorem whole_ld (x : Vec Ideal S256x5376 .bf16) : View.ld x r0_0 = x :=
  View.ld_unit_zero (by funext a; fin_cases a <;> rfl) _ x

variable (x : Vec Ideal S256x5376 .bf16) (w : Vec Ideal S1x5376 .f32) (g : Fin 42)

/-- The block's row factors, as the body computes them. -/
abbrev roots : FVec Ideal S256x1 .f32 := k0_pay1 (View.ld x r0_0)

theorem group_at (i : Fin 256) (l : Fin 128) :
    k0_pay266 (F := Ideal) (roots x) (View.ld x (colsR g)) (View.ld w (weightsR g)) (ValueIdx.ix2 i l)
      = hrow (xrow x i) (wrow w) ⟨128 * g.val + l.val, by omega⟩ := by
  rw [group_apply]
  unfold roots
  rw [whole_ld, root_apply]
  have e1 : (View.ld x (colsR g) : Vec Ideal S256x128 .bf16) (ValueIdx.ix2 i l) = xrow x i ⟨128 * g.val + l.val, by omega⟩ := congrArg x (cols_emb g i l)
  have e2 : (View.ld w (weightsR g) : Vec Ideal S1x128 .f32) (ValueIdx.ix2 (0 : Fin 1) l) = wrow w ⟨128 * g.val + l.val, by omega⟩ := congrArg w (weights_emb g l)
  rw [e1, e2]
  rfl

theorem share_at (i : Fin 256) :
    k0_pay267 (F := Ideal) (roots x) (View.ld x (colsR g)) (View.ld w (weightsR g)) (ValueIdx.ix2 i (0 : Fin 1)) = share (xrow x i) (wrow w) g :=
  share_apply (k0_pay266 (F := Ideal) (roots x) (View.ld x (colsR g)) (View.ld w (weightsR g))) i _ (group_at x w g i)

theorem word_at (i : Fin 256) :
    k0_pay269 (F := Ideal) (k0_pay267 (roots x) (View.ld x (colsR g)) (View.ld w (weightsR g))) k0_pay268 23#32 (ValueIdx.ix2 i (0 : Fin 1))
      = sbits (field (share (xrow x i) (wrow w) g)) :=
  word_apply _ i _ (share_at x w g i)

/-- A group's scales. -/
theorem scale_at (i : Fin 256) :
    scalePiece (F := Ideal) (roots x) (View.ld x (colsR g)) (View.ld w (weightsR g)) (ValueIdx.ix2 i (0 : Fin 1)) = srow (xrow x i) (wrow w) g := by
  unfold scalePiece k0_pay270
  show Ideal.ofBits .f32 (k0_pay269 (F := Ideal) (k0_pay267 (roots x) (View.ld x (colsR g)) (View.ld w (weightsR g))) k0_pay268 23#32 (ValueIdx.ix2 i (0 : Fin 1))) = _
  rw [word_at]
  exact (scale_eq _).1

theorem group_of (l : Fin 128) : (⟨(⟨128 * g.val + l.val, by omega⟩ : Fin 5376).val / 128, by omega⟩ : Fin 42) = g := by
  apply Fin.ext; show (128 * g.val + l.val) / 128 = g.val; omega

/-- A group's codes. -/
theorem code_at (i : Fin 256) (l : Fin 128) :
    codePiece (F := Ideal) (roots x) (View.ld x (colsR g)) (View.ld w (weightsR g)) (ValueIdx.ix2 i l)
      = crow (xrow x i) (wrow w) ⟨128 * g.val + l.val, by omega⟩ := by
  have hw := word_at x w g i
  have hg := group_at x w g i l
  unfold codePiece k0_pay271 crow
  rw [group_of g l]
  unfold srow
  rw [← (scale_eq _).2, ← hg]
  generalize k0_pay269 (F := Ideal) (k0_pay267 (roots x) (View.ld x (colsR g)) (View.ld w (weightsR g))) k0_pay268 23#32 = t at hw ⊢
  generalize k0_pay266 (F := Ideal) (roots x) (View.ld x (colsR g)) (View.ld w (weightsR g)) = h
  rw [← hw]
  refine congrArg (fun z : EReal => min (Ideal.ofBits .f32 0x43E00000#32) (max (Ideal.ofBits .f32 0xC3E00000#32) (h (ValueIdx.ix2 i l) * z))) ?_
  exact broadcastTo_apply _ _ _ (ValueIdx.ix2 i (0 : Fin 1)) fun a => by fin_cases a <;> rfl

/-- A group's dequantised values. -/
theorem value_at (i : Fin 256) (l : Fin 128) :
    valuePiece (F := Ideal) (roots x) (View.ld x (colsR g)) (View.ld w (weightsR g)) (ValueIdx.ix2 i l)
      = brow (xrow x i) (wrow w) ⟨128 * g.val + l.val, by omega⟩ := by
  have hc := code_at x w g i l
  have hs := scale_at x w g i
  unfold brow
  rw [group_of g l, ← hc, ← hs]
  unfold valuePiece k0_pay272 codePiece scalePiece
  generalize k0_pay271 (F := Ideal) (k0_pay266 (roots x) (View.ld x (colsR g)) (View.ld w (weightsR g))) (k0_pay267 (roots x) (View.ld x (colsR g)) (View.ld w (weightsR g))) k0_pay268 23#32 = c
  generalize k0_pay270 (F := Ideal) (k0_pay267 (roots x) (View.ld x (colsR g)) (View.ld w (weightsR g))) k0_pay268 23#32 = s
  refine congrArg (fun z : EReal => c (ValueIdx.ix2 i l) * z) ?_
  exact broadcastTo_apply _ _ _ (ValueIdx.ix2 i (0 : Fin 1)) fun a => by fin_cases a <;> rfl

end Cert.QuantIdeal.Hand

end
-- ==== Proof.QuantStores.lean ====
module

public import proofs.«01_k».proof.Proof.QuantBlock

@[expose] public section

set_option maxRecDepth 16384

noncomputable section

/-! The body's stores, group by group, are the three functions of a group's columns. -/

namespace Cert.QuantIdeal.Hand

open Cert.QuantIdeal Cert.QuantIdeal.Gen
open Idealize.ShloMosaic

variable {F : FTy → Type} [FloatOps F] (x : Vec F S256x5376 .bf16) (w : Vec F S1x5376 .f32)

/-- One group's store of the codes. -/
def codesAt (g : Fin 42) : View.Piece (Elt F) S256x5376 .fp8e4m3 :=
  ⟨colsR g, codePiece (k0_pay1 (View.ld x r0_0)) (View.ld x (colsR g)) (View.ld w (weightsR g))⟩

/-- The stores of the codes, last first. -/
theorem codes_eq : out0_2 x w = View.canon [codesAt x w 41, codesAt x w 40, codesAt x w 39, codesAt x w 38, codesAt x w 37, codesAt x w 36, codesAt x w 35, codesAt x w 34, codesAt x w 33, codesAt x w 32, codesAt x w 31, codesAt x w 30, codesAt x w 29, codesAt x w 28, codesAt x w 27, codesAt x w 26, codesAt x w 25, codesAt x w 24, codesAt x w 23, codesAt x w 22, codesAt x w 21, codesAt x w 20, codesAt x w 19, codesAt x w 18, codesAt x w 17, codesAt x w 16, codesAt x w 15, codesAt x w 14, codesAt x w 13, codesAt x w 12, codesAt x w 11, codesAt x w 10, codesAt x w 9, codesAt x w 8, codesAt x w 7, codesAt x w 6, codesAt x w 5, codesAt x w 4, codesAt x w 3, codesAt x w 2, codesAt x w 1, codesAt x w 0] := rfl

/-- One group's store of the scales. -/
def scalesAt (g : Fin 42) : View.Piece (Elt F) S256x42 .f32 :=
  ⟨scalesR g, scalePiece (k0_pay1 (View.ld x r0_0)) (View.ld x (colsR g)) (View.ld w (weightsR g))⟩

/-- The stores of the scales, last first. -/
theorem scales_eq : out0_3 x w = View.canon [scalesAt x w 41, scalesAt x w 40, scalesAt x w 39, scalesAt x w 38, scalesAt x w 37, scalesAt x w 36, scalesAt x w 35, scalesAt x w 34, scalesAt x w 33, scalesAt x w 32, scalesAt x w 31, scalesAt x w 30, scalesAt x w 29, scalesAt x w 28, scalesAt x w 27, scalesAt x w 26, scalesAt x w 25, scalesAt x w 24, scalesAt x w 23, scalesAt x w 22, scalesAt x w 21, scalesAt x w 20, scalesAt x w 19, scalesAt x w 18, scalesAt x w 17, scalesAt x w 16, scalesAt x w 15, scalesAt x w 14, scalesAt x w 13, scalesAt x w 12, scalesAt x w 11, scalesAt x w 10, scalesAt x w 9, scalesAt x w 8, scalesAt x w 7, scalesAt x w 6, scalesAt x w 5, scalesAt x w 4, scalesAt x w 3, scalesAt x w 2, scalesAt x w 1, scalesAt x w 0] := rfl

/-- One group's store of the values. -/
def valuesAt (g : Fin 42) : View.Piece (Elt F) S256x5376 .bf16 :=
  ⟨colsR g, valuePiece (k0_pay1 (View.ld x r0_0)) (View.ld x (colsR g)) (View.ld w (weightsR g))⟩

/-- The stores of the values, last first. -/
theorem values_eq : out0_4 x w = View.canon [valuesAt x w 41, valuesAt x w 40, valuesAt x w 39, valuesAt x w 38, valuesAt x w 37, valuesAt x w 36, valuesAt x w 35, valuesAt x w 34, valuesAt x w 33, valuesAt x w 32, valuesAt x w 31, valuesAt x w 30, valuesAt x w 29, valuesAt x w 28, valuesAt x w 27, valuesAt x w 26, valuesAt x w 25, valuesAt x w 24, valuesAt x w 23, valuesAt x w 22, valuesAt x w 21, valuesAt x w 20, valuesAt x w 19, valuesAt x w 18, valuesAt x w 17, valuesAt x w 16, valuesAt x w 15, valuesAt x w 14, valuesAt x w 13, valuesAt x w 12, valuesAt x w 11, valuesAt x w 10, valuesAt x w 9, valuesAt x w 8, valuesAt x w 7, valuesAt x w 6, valuesAt x w 5, valuesAt x w 4, valuesAt x w 3, valuesAt x w 2, valuesAt x w 1, valuesAt x w 0] := rfl

end Cert.QuantIdeal.Hand

end
-- ==== Proof.QuantOut.lean ====
module

public import proofs.«01_k».proof.Proof.QuantStores

@[expose] public section

set_option maxRecDepth 16384

noncomputable section

/-! What the body leaves in its three staging buffers, element by element. -/

namespace Cert.QuantIdeal.Hand

open Cert.QuantIdeal Cert.QuantIdeal.Gen
open Idealize.ShloMosaic

variable (x : Vec Ideal S256x5376 .bf16) (w : Vec Ideal S1x5376 .f32)

/-- All 42 groups' stores, last first. -/
def stores {s : Shape} {e : EltTy} (f : Fin 42 → View.Piece (Elt Ideal) s e) : List (View.Piece (Elt Ideal) s e) :=
  (List.finRange 42).reverse.map f

/-- Every entry that is some group's function of its index is so in the whole buffer. -/
theorem canon_stores {s : Shape} {e : EltTy} (f : Fin 42 → View.Piece (Elt Ideal) s e) (G : s.Idx → Elt Ideal e)
    (hG : ∀ g j, (f g).2 j = G ((f g).1.emb j)) (y : s.Idx) (hy : ∃ g, y ∈ (f g).1.set) : View.canon (stores f) y = G y := by
  refine View.canon_apply_of_pieces G (stores f) (fun p hp => ?_) y ?_
  · obtain ⟨g, _, rfl⟩ := List.mem_map.1 hp
    exact hG g
  · obtain ⟨g, hg⟩ := hy
    exact ⟨f g, List.mem_map.2 ⟨g, List.mem_reverse.2 (List.mem_finRange g), rfl⟩, hg⟩

/-- A column is in its group's rectangle. -/
theorem cols_mem (i : Fin 256) (c : Fin 5376) : ValueIdx.ix2 i c ∈ (colsR ⟨c.val / 128, by omega⟩).set := by
  refine Rect.mem_set_unit.2 fun a => ?_
  match a with
  | ⟨0, _⟩ => show 0 ≤ i.val ∧ i.val < 0 + 256; omega
  | ⟨1, _⟩ => show 128 * (c.val / 128) ≤ c.val ∧ c.val < 128 * (c.val / 128) + 128; omega

/-- A scale is in its group's rectangle. -/
theorem scales_mem (i : Fin 256) (g : Fin 42) : ValueIdx.ix2 i g ∈ (scalesR g).set := by
  refine Rect.mem_set_unit.2 fun a => ?_
  match a with
  | ⟨0, _⟩ => show 0 ≤ i.val ∧ i.val < 0 + 256; omega
  | ⟨1, _⟩ => show g.val ≤ g.val ∧ g.val < g.val + 1; omega

/-- The codes' buffer. -/
theorem codes_out (i : Fin 256) (c : Fin 5376) : out0_2 (F := Ideal) x w (ValueIdx.ix2 i c) = crow (xrow x i) (wrow w) c := by
  rw [codes_eq]
  refine canon_stores (codesAt x w) (fun y => crow (xrow x (y 0 : Fin 256)) (wrow w) (y 1 : Fin 5376)) (fun g j => ?_) _ ⟨_, cols_mem i c⟩
  have hj : j = ValueIdx.ix2 (j 0 : Fin 256) (j 1 : Fin 128) := by funext a; fin_cases a <;> rfl
  rw [hj]
  exact (code_at x w g _ _).trans (congrArg (fun y : S256x5376.Idx => crow (xrow x (y 0 : Fin 256)) (wrow w) (y 1 : Fin 5376)) (cols_emb g _ _)).symm

/-- The scales' buffer. -/
theorem scales_out (i : Fin 256) (g : Fin 42) : out0_3 (F := Ideal) x w (ValueIdx.ix2 i g) = srow (xrow x i) (wrow w) g := by
  rw [scales_eq]
  refine canon_stores (scalesAt x w) (fun y => srow (xrow x (y 0 : Fin 256)) (wrow w) (y 1 : Fin 42)) (fun g j => ?_) _ ⟨g, scales_mem i g⟩
  · have hj : j = ValueIdx.ix2 (j 0 : Fin 256) (0 : Fin 1) := by
      funext a
      match a with
      | ⟨0, _⟩ => rfl
      | ⟨1, _⟩ => exact Subsingleton.elim (α := Fin 1) _ _
    rw [hj]
    exact (scale_at x w g _).trans (congrArg (fun y : S256x42.Idx => srow (xrow x (y 0 : Fin 256)) (wrow w) (y 1 : Fin 42)) (scales_emb g _)).symm

/-- The dequantised values' buffer. -/
theorem values_out (i : Fin 256) (c : Fin 5376) : out0_4 (F := Ideal) x w (ValueIdx.ix2 i c) = brow (xrow x i) (wrow w) c := by
  rw [values_eq]
  refine canon_stores (valuesAt x w) (fun y => brow (xrow x (y 0 : Fin 256)) (wrow w) (y 1 : Fin 5376)) (fun g j => ?_) _ ⟨_, cols_mem i c⟩
  have hj : j = ValueIdx.ix2 (j 0 : Fin 256) (j 1 : Fin 128) := by funext a; fin_cases a <;> rfl
  rw [hj]
  exact (value_at x w g _ _).trans (congrArg (fun y : S256x5376.Idx => brow (xrow x (y 0 : Fin 256)) (wrow w) (y 1 : Fin 5376)) (cols_emb g _ _)).symm

end Cert.QuantIdeal.Hand

end
-- ==== Proof.QuantRef.lean ====
module

public import proofs.«01_k».proof.Proof.Gen.QuantReferenceIdeal.Value
public import proofs.«01_k».proof.Proof.QuantRow
public import Idealize.ShloMosaic.Lib.ValueIdx

@[expose] public section

set_option maxRecDepth 16384

noncomputable section

/-! The reference's three results, element by element, are the quantised row of `QuantRow`. -/

namespace Cert.QuantReferenceIdeal.Hand

open Cert.QuantReferenceIdeal Cert.QuantReferenceIdeal.Gen Cert.QuantIdeal.Hand
open Idealize.ShloMosaic

/-- The normalised rows, in groups. -/
theorem normed_apply (x : Vec Ideal S12288x5376 .bf16) (w : Vec Ideal S5376 .f32) (r : Fin 12288) (g : Fin 42) (l : Fin 128) :
    k0_pay4 (F := Ideal) x w (ValueIdx.ix3 r g l)
      = hrow (fun k => x (ValueIdx.ix2 r k)) (fun k => w (ValueIdx.ix1 k)) ⟨128 * g.val + l.val, by omega⟩ := by
  have hs := add_single (mulf (extf .f32 x bitsLt_bf16_f32) (extf .f32 x bitsLt_bf16_f32)) 0x00000000#32 reduces_S12288x5376_S12288 (.inl rfl) rfl
    (ValueIdx.ix1 r) 5376 rfl (fun k => x (ValueIdx.ix2 r k) * x (ValueIdx.ix2 r k)) fun k => by
      have e : reduces_S12288x5376_S12288.lift (ValueIdx.ix1 r) k = ValueIdx.ix2 r k := by
        funext a; apply Fin.ext; fin_cases a <;> rfl
      rw [e]; rfl
  unfold k0_pay4 hrow rroot
  refine (shapeCast_apply _ _ _ (ValueIdx.ix2 r (⟨128 * g.val + l.val, by omega⟩ : Fin 5376)) (by
    rw [Shape.rowMajor_val_two, Shape.rowMajor_val_three]
    show r.val * 5376 + (128 * g.val + l.val) = (r.val * 42 + g.val) * 128 + l.val
    omega)).trans ?_
  refine congrArg₂ (fun a b : EReal => x (ValueIdx.ix2 r (⟨128 * g.val + l.val, by omega⟩ : Fin 5376)) * a * b) ?_ ?_
  · refine (broadcastTo_apply _ _ _ (ValueIdx.ix2 r (0 : Fin 1)) fun a => by fin_cases a <;> rfl).trans ?_
    rw [← hs]
    refine congrArg (fun z : EReal => Ideal.rsqrt (z * Ideal.ofBits .f32 0x39430C31#32 + Ideal.ofBits .f32 0x358637BD#32)) ?_
    refine shapeCast_apply _ _ _ (ValueIdx.ix1 r) ?_
    rw [Shape.rowMajor_val_two, Shape.rowMajor_val_one]
    show r.val = r.val * 1 + 0
    omega
  · refine (broadcastTo_apply _ _ _ (ValueIdx.ix2 (0 : Fin 1) (⟨128 * g.val + l.val, by omega⟩ : Fin 5376)) fun a => by fin_cases a <;> rfl).trans ?_
    refine shapeCast_apply _ _ _ (ValueIdx.ix1 _) ?_
    rw [Shape.rowMajor_val_two, Shape.rowMajor_val_one]
    show 128 * g.val + l.val = 0 * 5376 + (128 * g.val + l.val)
    omega

/-- Every group's largest absolute value. -/
def peaks (v : FVec Ideal S12288x42x128 .f32) : FVec Ideal S12288x42 .f32 :=
  multiReduction .maximumf [2] S12288x42 (absf v) 0xFF800000#32 reduces_S12288x42x128_S12288x42 (.inl rfl) rfl

/-- Every group's share, of any array in groups: its largest absolute value over 448. -/
def shares (v : FVec Ideal S12288x42x128 .f32) : FVec Ideal S12288x42 .f32 :=
  mulf (peaks v) (broadcast S12288x42 (Scalar.ofBits .f32 0x3B124925#32))

/-- A product with one number, element by element. -/
theorem mulf_at {s : Shape} (A : FVec Ideal s .f32) (c : EReal) (i : s.Idx) : mulf (F := Ideal) A (broadcast s c) i = A i * c := rfl

/-- The powers of two the reference compares with. -/
def powers : FVec Ideal S1x1x252 .f32 :=
  exp2 (F := Ideal) (subf (sitofp .f32 (iota .tc S1x1x252 32 [2] iota_S1x1x252_d2_w32)) (broadcast S1x1x252 (Scalar.ofBits .f32 0x42FC0000#32)))

/-- The largest of the powers at most each share. -/
def belows (p : FVec Ideal S1x1x252 .f32) (P : FVec Ideal S12288x42 .f32) : FVec Ideal S12288x42 .f32 :=
  multiReduction .maximumf [2] S12288x42 (select (cmpf .ole (broadcastTo S12288x42x252 p broadcasts_S1x1x252_S12288x42x252)
        (broadcastTo S12288x42x252 (shapeCast S12288x42x1 P shapeCasts_S12288x42_S12288x42x1) broadcasts_S12288x42x1_S12288x42x252))
        (broadcastTo S12288x42x252 (shapeCast S1x1x252 p shapeCasts_S1x1x252_S1x1x252) broadcasts_S1x1x252_S12288x42x252)
        (broadcast S12288x42x252 (Scalar.ofBits .f32 0x00000000#32))) 0xFF800000#32 reduces_S12288x42x252_S12288x42 (.inl rfl) rfl

/-- Twice each such power, or 1. -/
def doubled (B : FVec Ideal S12288x42 .f32) : FVec Ideal S12288x42 .f32 :=
  select (cmpf .oeq B (broadcast S12288x42 (Scalar.ofBits .f32 0x00000000#32))) (broadcast S12288x42 (Scalar.ofBits (F := Ideal) .f32 0x3F800000#32))
      (mulf B (broadcast S12288x42 (Scalar.ofBits .f32 0x40000000#32)))

/-- The reference's scales are these steps, one after the other. -/
theorem scales_eq (x : Vec Ideal S12288x5376 .bf16) (w : Vec Ideal S5376 .f32) :
    k0_pay5 (F := Ideal) x w = doubled (belows powers (shares (k0_pay4 x w))) := by
  unfold k0_pay5 doubled belows powers shares peaks
  generalize k0_pay4 (F := Ideal) x w = v
  with_reducible rfl

/-- A group's largest absolute value, of any array in groups. -/
theorem group_max (v : FVec Ideal S12288x42x128 .f32) (r : Fin 12288) (g : Fin 42) (f : Fin 128 → EReal)
    (hv : ∀ l : Fin 128, v (ValueIdx.ix3 r g l) = f l) :
    peaks v (ValueIdx.ix2 r g)
      = Finset.univ.fold max (Ideal.ofBits .f32 0xFF800000#32) fun l : Fin 128 => FloatOps.absf (F := Ideal) (φ := .f32) (f l) :=
  max_single (absf v) _ _ _ _ (ValueIdx.ix2 r g) 128 rfl _ fun l => by
    have e : reduces_S12288x42x128_S12288x42.lift (ValueIdx.ix2 r g) l = ValueIdx.ix3 r g (Fin.cast rfl l : Fin 128) := by
      funext a; apply Fin.ext; fin_cases a <;> rfl
    exact congrArg (FloatOps.absf (F := Ideal) (φ := .f32)) ((congrArg v e).trans (hv _))

/-- The powers of two the reference compares with. -/
theorem powers_apply (l : Fin 252) :
    powers (ValueIdx.ix3 (0 : Fin 1) (0 : Fin 1) l) = pow l := by
  have hi : iota .tc S1x1x252 32 [2] iota_S1x1x252_d2_w32 (ValueIdx.ix3 (0 : Fin 1) (0 : Fin 1) l) = BitVec.ofNat 32 l.val := by
    show BitVec.ofNat 32 (0 * 252 + l.val) = _
    rw [Nat.zero_mul, Nat.zero_add]
  show Ideal.exp2 ((((iota .tc S1x1x252 32 [2] iota_S1x1x252_d2_w32 (ValueIdx.ix3 (0 : Fin 1) (0 : Fin 1) l)).toInt : ℝ) : EReal) - Ideal.ofBits .f32 0x42FC0000#32) = _
  rw [hi]
  rfl

/-- The largest power of two at most a group's share, for any powers and shares. -/
theorem below_apply (p : FVec Ideal S1x1x252 .f32) (P : FVec Ideal S12288x42 .f32) (r : Fin 12288) (g : Fin 42) (a : EReal)
    (hp : ∀ l : Fin 252, p (ValueIdx.ix3 (0 : Fin 1) (0 : Fin 1) l) = pow l) (hP : P (ValueIdx.ix2 r g) = a) :
    belows p P (ValueIdx.ix2 r g) = below a :=
  max_single _ _ _ _ _ (ValueIdx.ix2 r g) 252 rfl _ fun l => by
    have e : reduces_S12288x42x252_S12288x42.lift (ValueIdx.ix2 r g) l = ValueIdx.ix3 r g (Fin.cast rfl l : Fin 252) := by
      funext a; apply Fin.ext; fin_cases a <;> rfl
    refine (congrArg _ e).trans ?_
    suffices hk : ∀ l' : Fin 252, select (cmpf .ole (broadcastTo S12288x42x252 p broadcasts_S1x1x252_S12288x42x252)
        (broadcastTo S12288x42x252 (shapeCast S12288x42x1 P shapeCasts_S12288x42_S12288x42x1) broadcasts_S12288x42x1_S12288x42x252))
        (broadcastTo S12288x42x252 (shapeCast S1x1x252 p shapeCasts_S1x1x252_S1x1x252) broadcasts_S1x1x252_S12288x42x252)
        (broadcast S12288x42x252 (Scalar.ofBits .f32 0x00000000#32)) (ValueIdx.ix3 r g l') = if pow l' ≤ a then pow l' else 0 from hk _
    intro l'
    have e1 : broadcastTo S12288x42x252 p broadcasts_S1x1x252_S12288x42x252 (ValueIdx.ix3 r g l') = pow l' :=
      (broadcastTo_apply _ _ _ (ValueIdx.ix3 (0 : Fin 1) (0 : Fin 1) l') fun a => by fin_cases a <;> rfl).trans (hp l')
    have e2 : broadcastTo S12288x42x252 (shapeCast S12288x42x1 P shapeCasts_S12288x42_S12288x42x1) broadcasts_S12288x42x1_S12288x42x252 (ValueIdx.ix3 r g l') = a :=
      (broadcastTo_apply _ _ _ (ValueIdx.ix3 r g (0 : Fin 1)) fun a => by fin_cases a <;> rfl).trans
        ((shapeCast_apply _ _ _ (ValueIdx.ix2 r g) (by
          rw [Shape.rowMajor_val_two, Shape.rowMajor_val_three]
          show r.val * 42 + g.val = (r.val * 42 + g.val) * 1 + 0
          omega)).trans hP)
    rw [shapeCast_self]
    show Scalar.select (BitVec.ofBool (decide (broadcastTo S12288x42x252 p broadcasts_S1x1x252_S12288x42x252 (ValueIdx.ix3 r g l')
      ≤ broadcastTo S12288x42x252 (shapeCast S12288x42x1 P shapeCasts_S12288x42_S12288x42x1) broadcasts_S12288x42x1_S12288x42x252 (ValueIdx.ix3 r g l'))))
      (broadcastTo S12288x42x252 p broadcasts_S1x1x252_S12288x42x252 (ValueIdx.ix3 r g l')) (Ideal.ofBits .f32 0x00000000#32) = _
    rw [e1, e2, select_ofBool, Ideal.ofBits_zero_f32]

/-- The scale from the largest power of two at most the share. -/
theorem doubled_apply (B : FVec Ideal S12288x42 .f32) (i : S12288x42.Idx) :
    doubled B i = if B i = 0 then 1 else B i * Ideal.ofBits .f32 0x40000000#32 := by
  show Scalar.select (BitVec.ofBool (decide (B i = Ideal.ofBits .f32 0x00000000#32))) (Ideal.ofBits .f32 0x3F800000#32) (B i * Ideal.ofBits .f32 0x40000000#32) = _
  rw [select_ofBool, Ideal.ofBits_zero_f32, Ideal.ofBits_one_f32]

/-- The shares. -/
theorem shares_apply (v : FVec Ideal S12288x42x128 .f32) (r : Fin 12288) (g : Fin 42) (f : Fin 128 → EReal)
    (hv : ∀ l : Fin 128, v (ValueIdx.ix3 r g l) = f l) :
    shares v (ValueIdx.ix2 r g) = (Finset.univ.fold max (Ideal.ofBits .f32 0xFF800000#32) fun l : Fin 128 => FloatOps.absf (F := Ideal) (φ := .f32) (f l))
      * Ideal.ofBits .f32 0x3B124925#32 := by
  unfold shares
  refine (mulf_at (peaks v) (Ideal.ofBits .f32 0x3B124925#32) (ValueIdx.ix2 r g)).trans ?_
  rw [group_max v r g f hv]

/-- The scales. -/
theorem scale_apply (x : Vec Ideal S12288x5376 .bf16) (w : Vec Ideal S5376 .f32) (r : Fin 12288) (g : Fin 42) :
    k0_pay5 (F := Ideal) x w (ValueIdx.ix2 r g) = srow (fun k => x (ValueIdx.ix2 r k)) (fun k => w (ValueIdx.ix1 k)) g := by
  have h1 := shares_apply (k0_pay4 x w) r g _ (normed_apply x w r g)
  have h2 := below_apply powers (shares (k0_pay4 x w)) r g _ powers_apply h1
  have h3 := doubled_apply (belows powers (shares (k0_pay4 x w))) (ValueIdx.ix2 r g)
  rw [h2] at h3
  rw [scales_eq, h3]
  unfold srow scale share
  rfl

end Cert.QuantReferenceIdeal.Hand

end
-- ==== Proof.QuantRefOut.lean ====
module

public import proofs.«01_k».proof.Proof.QuantRef

@[expose] public section

set_option maxRecDepth 16384

noncomputable section

/-! The reference's three arrays, element by element. -/

namespace Cert.QuantReferenceIdeal.Hand

open Cert.QuantReferenceIdeal Cert.QuantReferenceIdeal.Gen Cert.QuantIdeal.Hand
open Idealize.ShloMosaic

/-- The codes of an array's rows. -/
def codes (a0 : Vec Ideal S12288x5376 .bf16) (a1 : Vec Ideal S5376 .f32) : Vec Ideal S12288x5376 .fp8e4m3 :=
  fun i => crow (fun k => a0 (ValueIdx.ix2 (i 0 : Fin 12288) k)) (fun k => a1 (ValueIdx.ix1 k)) (i 1 : Fin 5376)

/-- The scales of an array's rows. -/
def scales (a0 : Vec Ideal S12288x5376 .bf16) (a1 : Vec Ideal S5376 .f32) : Vec Ideal S12288x42 .f32 :=
  fun i => srow (fun k => a0 (ValueIdx.ix2 (i 0 : Fin 12288) k)) (fun k => a1 (ValueIdx.ix1 k)) (i 1 : Fin 42)

/-- The dequantised values of an array's rows. -/
def values (a0 : Vec Ideal S12288x5376 .bf16) (a1 : Vec Ideal S5376 .f32) : Vec Ideal S12288x5376 .bf16 :=
  fun i => brow (fun k => a0 (ValueIdx.ix2 (i 0 : Fin 12288) k)) (fun k => a1 (ValueIdx.ix1 k)) (i 1 : Fin 5376)

variable (x : Vec Ideal S12288x5376 .bf16) (w : Vec Ideal S5376 .f32)

theorem pay7_eq : k0_pay7 (F := Ideal) x w = k0_pay5 x w := by
  unfold k0_pay7
  rw [View.ld_unit_zero Value.hz0, View.ld_unit_zero Value.hz1]

theorem pay8_eq : k0_pay8 (F := Ideal) x w = k0_pay6 x w := by
  unfold k0_pay8
  rw [View.ld_unit_zero Value.hz0, View.ld_unit_zero Value.hz1]

/-- One number for each group, spread over the group. -/
theorem spread_apply {φ : FTy} (s : FVec Ideal S12288x42 φ) (r : Fin 12288) (g : Fin 42) (l : Fin 128) :
    broadcastTo S12288x42x128 (shapeCast S12288x42x1 s shapeCasts_S12288x42_S12288x42x1) broadcasts_S12288x42x1_S12288x42x128 (ValueIdx.ix3 r g l)
      = s (ValueIdx.ix2 r g) := by
  refine (broadcastTo_apply _ _ _ (ValueIdx.ix3 r g (0 : Fin 1)) fun a => by fin_cases a <;> rfl).trans ?_
  refine shapeCast_apply _ _ _ (ValueIdx.ix2 r g) ?_
  rw [Shape.rowMajor_val_two, Shape.rowMajor_val_three]
  show r.val * 42 + g.val = (r.val * 42 + g.val) * 1 + 0
  omega

theorem divf_at {s : Shape} (A B : FVec Ideal s .f32) (i : s.Idx) : divf (F := Ideal) A B i = Ideal.div (A i) (B i) := rfl

theorem prod_at {s : Shape} (A B : FVec Ideal s .bf16) (i : s.Idx) : mulf (F := Ideal) A B i = A i * B i := rfl

theorem clip_at (q : FVec Ideal S12288x42x128 .f32) (lo hi : EReal) (i : S12288x42x128.Idx) :
    k0_pay1 (F := Ideal) q lo hi i = min hi (max lo (q i)) := rfl

theorem quotient_apply (r : Fin 12288) (g : Fin 42) (l : Fin 128) :
    k0_pay6 (F := Ideal) x w (ValueIdx.ix3 r g l)
      = Ideal.div (hrow (fun k => x (ValueIdx.ix2 r k)) (fun k => w (ValueIdx.ix1 k)) ⟨128 * g.val + l.val, by omega⟩)
          (srow (fun k => x (ValueIdx.ix2 r k)) (fun k => w (ValueIdx.ix1 k)) g) := by
  unfold k0_pay6
  refine (divf_at _ _ _).trans ?_
  rw [normed_apply, spread_apply, scale_apply]

theorem group_of (g : Fin 42) (l : Fin 128) : (⟨(⟨128 * g.val + l.val, by omega⟩ : Fin 5376).val / 128, by omega⟩ : Fin 42) = g := by
  apply Fin.ext; show (128 * g.val + l.val) / 128 = g.val; omega

theorem clipped_apply (r : Fin 12288) (g : Fin 42) (l : Fin 128) :
    k0_pay1 (F := Ideal) (k0_pay6 x w) (Ideal.ofBits .f32 0xC3E00000#32) (Ideal.ofBits .f32 0x43E00000#32) (ValueIdx.ix3 r g l)
      = crow (fun k => x (ValueIdx.ix2 r k)) (fun k => w (ValueIdx.ix1 k)) ⟨128 * g.val + l.val, by omega⟩ := by
  rw [clip_at, quotient_apply]
  unfold crow
  rw [group_of g l]

/-- A column is a group's. -/
theorem column (c : Fin 5376) : c = (⟨128 * (⟨c.val / 128, by omega⟩ : Fin 42).val + (⟨c.val % 128, by omega⟩ : Fin 128).val, by
    show 128 * (c.val / 128) + c.val % 128 < 5376; omega⟩ : Fin 5376) := by
  apply Fin.ext; show c.val = 128 * (c.val / 128) + c.val % 128; omega

/-- Groups side by side. -/
theorem flat_apply {φ : FTy} (v : FVec Ideal S12288x42x128 φ) (r : Fin 12288) (g : Fin 42) (l : Fin 128) :
    shapeCast S12288x5376 v shapeCasts_S12288x42x128_S12288x5376 (ValueIdx.ix2 r (⟨128 * g.val + l.val, by omega⟩ : Fin 5376)) = v (ValueIdx.ix3 r g l) := by
  refine shapeCast_apply _ _ _ (ValueIdx.ix3 r g l) ?_
  rw [Shape.rowMajor_val_two, Shape.rowMajor_val_three]
  show (r.val * 42 + g.val) * 128 + l.val = r.val * 5376 + (128 * g.val + l.val)
  omega

theorem codes_apply (r : Fin 12288) (c : Fin 5376) : Value.G2 (F := Ideal) x w (ValueIdx.ix2 r c) = codes x w (ValueIdx.ix2 r c) := by
  unfold Value.G2
  rw [pay8_eq, column c]
  unfold k0_pay2
  exact (flat_apply _ _ _ _).trans (clipped_apply x w _ _ _)

theorem scales_apply (r : Fin 12288) (g : Fin 42) : Value.G3 (F := Ideal) x w (ValueIdx.ix2 r g) = scales x w (ValueIdx.ix2 r g) := by
  unfold Value.G3
  rw [pay7_eq, scale_apply]
  rfl

theorem values_at (r : Fin 12288) (g : Fin 42) (l : Fin 128) :
    mulf (F := Ideal) (extf .bf16 (k0_pay1 (F := Ideal) (k0_pay6 x w) (Ideal.ofBits .f32 0xC3E00000#32) (Ideal.ofBits .f32 0x43E00000#32)) bitsLt_fp8e4m3_bf16)
        (broadcastTo S12288x42x128 (shapeCast S12288x42x1 (truncf .bf16 (k0_pay5 (F := Ideal) x w) bitsLt_bf16_f32) shapeCasts_S12288x42_S12288x42x1) broadcasts_S12288x42x1_S12288x42x128)
        (ValueIdx.ix3 r g l)
      = brow (fun k => x (ValueIdx.ix2 r k)) (fun k => w (ValueIdx.ix1 k)) ⟨128 * g.val + l.val, by omega⟩ := by
  have h1 := clipped_apply x w r g l
  have h2 := scale_apply x w r g
  unfold brow
  rw [group_of g l, ← h1, ← h2, prod_at, spread_apply]
  generalize k0_pay1 (F := Ideal) (k0_pay6 x w) (Ideal.ofBits .f32 0xC3E00000#32) (Ideal.ofBits .f32 0x43E00000#32) = c
  generalize k0_pay5 (F := Ideal) x w = s
  rfl

theorem values_apply (r : Fin 12288) (c : Fin 5376) : Value.G4 (F := Ideal) x w (ValueIdx.ix2 r c) = values x w (ValueIdx.ix2 r c) := by
  unfold Value.G4
  rw [pay8_eq, pay7_eq, column c]
  unfold k0_pay3
  exact (flat_apply _ _ _ _).trans (values_at x w _ _ _)

/-- The reference's three arrays. -/
theorem codes_eq : Value.G2 (F := Ideal) x w = codes x w := by
  funext i
  have hi : i = ValueIdx.ix2 (i 0 : Fin 12288) (i 1 : Fin 5376) := by funext a; fin_cases a <;> rfl
  rw [hi]; exact codes_apply x w _ _

theorem scales_eq' : Value.G3 (F := Ideal) x w = scales x w := by
  funext i
  have hi : i = ValueIdx.ix2 (i 0 : Fin 12288) (i 1 : Fin 42) := by funext a; fin_cases a <;> rfl
  rw [hi]; exact scales_apply x w _ _

theorem values_eq : Value.G4 (F := Ideal) x w = values x w := by
  funext i
  have hi : i = ValueIdx.ix2 (i 0 : Fin 12288) (i 1 : Fin 5376) := by funext a; fin_cases a <;> rfl
  rw [hi]; exact values_apply x w _ _

end Cert.QuantReferenceIdeal.Hand

end
-- ==== Proof.QuantRun.lean ====
module

public import proofs.«01_k».proof.Proof.QuantOut
public import proofs.«01_k».proof.Proof.QuantRefOut
public import Idealize.ShloMosaic.Lib.Pipeline.Value

@[expose] public section

set_option maxRecDepth 16384

noncomputable section

/-! The kernel's three arrays after the run: each is the same function of the arguments as the reference's. -/

namespace Cert.QuantIdeal.Hand

open Cert.QuantIdeal Cert.QuantIdeal.Gen
open Idealize.ShloMosaic Idealize.ShloMosaic.TcCoe Idealize.ShloMosaic.Tactic
open Idealize.SL.Sem
open Cert.QuantReferenceIdeal.Hand (codes scales values)

variable (m : (ℓ : Loc nD τ sig) → Buf (Elt Ideal) ℓ) (c : Dev nD)

/-- The argument arrays as launched. -/
abbrev A0 : Vec Ideal S12288x5376 .bf16 := m ((c : Thread nD τ).loc main_arg0)
abbrev A1 : Vec Ideal S5376 .f32 := m ((c : Thread nD τ).loc main_arg1)

theorem pointsN : cfg0.N = 48 := rfl

theorem ix0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem ix1' : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem ix2' : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem ix3' : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem ix4' : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- The array's row that a row of a point's block is. -/
def rowOf (t : Fin cfg0.N) (i : Fin 256) : Fin 12288 :=
  ⟨256 * t.val + i.val, by have : t.val < 48 := lt_of_lt_of_eq t.isLt pointsN; omega⟩

/-- A row of a point's block of the activations. -/
theorem rows (t : Fin cfg0.N) (i : Fin 256) :
    xrow (iblk m c 0 t : Vec Ideal S256x5376 .bf16) i = fun k => A0 m c (ValueIdx.ix2 (rowOf t i) k) := by
  funext k
  show V m c main_arg0 (((cfg0.win 0).blk t).view.emb (ValueIdx.ix2 i k)) = _
  rw [V_main_arg0]
  refine congrArg (A0 m c) (funext fun a => Fin.ext ?_)
  fin_cases a
  · show win0_0.index t (0 : Fin 2) * 256 + 1 * i.val = 256 * t.val + i.val
    rw [(ix0 t).1]; omega
  · show win0_0.index t (1 : Fin 2) * 5376 + 1 * k.val = k.val
    rw [(ix0 t).2]; omega

/-- The weights, at every point. -/
theorem weights (t : Fin cfg0.N) : wrow (iblk m c 1 t : Vec Ideal S1x5376 .f32) = fun k => A1 m c (ValueIdx.ix1 k) := by
  funext k
  show V m c main_v0 (((cfg0.win 1).blk t).view.emb (ValueIdx.ix2 (0 : Fin 1) k)) = _
  have e : ((cfg0.win 1).blk t).view.emb (ValueIdx.ix2 (0 : Fin 1) k) = ValueIdx.ix2 (0 : Fin 1) k := by
    refine funext fun a => Fin.ext ?_
    fin_cases a
    · show win0_1.index t (0 : Fin 2) * 1 + 1 * 0 = 0
      rw [(ix1' t).1]
    · show win0_1.index t (1 : Fin 2) * 5376 + 1 * k.val = k.val
      rw [(ix1' t).2]; omega
  rw [e]
  entry_read
  refine shapeCast_apply _ _ _ (ValueIdx.ix1 k) ?_
  refine (Shape.rowMajor_val_one _).trans (Eq.trans ?_ (Shape.rowMajor_val_two (d := ![1, 5376]) (ValueIdx.ix2 (0 : Fin 1) k)).symm)
  show k.val = 0 * 5376 + k.val
  omega

/-- The codes a point's body leaves. -/
theorem codes_at (t : Fin cfg0.N) (i : Fin 256) (k : Fin 5376) :
    out0_2 (F := Ideal) (iblk m c 0 t) (iblk m c 1 t) (ValueIdx.ix2 i k) = codes (A0 m c) (A1 m c) (ValueIdx.ix2 (rowOf t i) k) := by
  refine (codes_out _ _ _ _).trans ?_
  rw [rows, weights]
  rfl

/-- What a point writes back is its block of the codes. -/
theorem flushed2 (t : Fin cfg0.N) :
    (dats m 0 c).flushed 2 t = ((cfg0.win 2).blk t).view.read (Elt Ideal) (codes (A0 m c) (A1 m c)) := by
  rw [Value.flushed2]
  funext j
  have hj : j = ValueIdx.ix2 (j 0 : Fin 256) (j 1 : Fin 5376) := by funext a; fin_cases a <;> rfl
  show out0_2 (F := Ideal) (iblk m c 0 t) (iblk m c 1 t) j = codes (A0 m c) (A1 m c) (((cfg0.win 2).blk t).view.emb j)
  have e : ((cfg0.win 2).blk t).view.emb j = ValueIdx.ix2 (rowOf t (j 0 : Fin 256)) (j 1 : Fin 5376) := by
    refine funext fun a => Fin.ext ?_
    fin_cases a
    · show win0_2.index t (0 : Fin 2) * 256 + 1 * (j 0).val = 256 * t.val + (j 0).val
      rw [(ix2' t).1]; omega
    · show win0_2.index t (1 : Fin 2) * 5376 + 1 * (j 1).val = (j 1).val
      rw [(ix2' t).2]; omega
  exact (congrArg (out0_2 (F := Ideal) (iblk m c 0 t) (iblk m c 1 t)) hj).trans ((codes_at m c t _ _).trans (congrArg (codes (A0 m c) (A1 m c)) e).symm)

/-- Every index is in the block of some point that writes back. -/
theorem covered2 (i : S12288x5376.Idx) : ∃ t : Fin cfg0.N, (cfg0.win 2).flush t = true ∧ i ∈ ((cfg0.win 2).blk t).view.set := by
  have h0 : (i 0).val < 12288 := (i 0).isLt
  obtain ⟨t, ht⟩ : ∃ t : Fin cfg0.N, t.val = (i 0).val / 256 := ⟨⟨(i 0).val / 256, by rw [pointsN]; omega⟩, rfl⟩
  refine ⟨t, flush0_2 t, ?_⟩
  have h := ((cfg0.win 2).blk t).view.emb_mem_set (ValueIdx.ix2 (⟨(i 0).val % 256, by omega⟩ : Fin 256) (i 1 : Fin 5376))
  refine (congrArg (· ∈ ((cfg0.win 2).blk t).view.set) (funext fun a => Fin.ext ?_)).mp h
  fin_cases a
  · show win0_2.index t (0 : Fin 2) * 256 + 1 * ((i 0).val % 256) = (i 0).val
    rw [(ix2' t).1]; omega
  · show win0_2.index t (1 : Fin 2) * 5376 + 1 * (i 1).val = (i 1).val
    rw [(ix2' t).2]; omega

/-- The array of codes after the run. -/
theorem final2 : (dats m 0 c).arrAt 2 cfg0.N = codes (A0 m c) (A1 m c) :=
  (dats m 0 c).arrAt_eq_of_cover 2 (codes (A0 m c) (A1 m c)) (fun t _ => flushed2 m c t) covered2

/-- The scales a point's body leaves. -/
theorem scales_at (t : Fin cfg0.N) (i : Fin 256) (k : Fin 42) :
    out0_3 (F := Ideal) (iblk m c 0 t) (iblk m c 1 t) (ValueIdx.ix2 i k) = scales (A0 m c) (A1 m c) (ValueIdx.ix2 (rowOf t i) k) := by
  refine (scales_out _ _ _ _).trans ?_
  rw [rows, weights]
  rfl

/-- What a point writes back is its block of the scales. -/
theorem flushed3 (t : Fin cfg0.N) :
    (dats m 0 c).flushed 3 t = ((cfg0.win 3).blk t).view.read (Elt Ideal) (scales (A0 m c) (A1 m c)) := by
  rw [Value.flushed3]
  funext j
  have hj : j = ValueIdx.ix2 (j 0 : Fin 256) (j 1 : Fin 42) := by funext a; fin_cases a <;> rfl
  show out0_3 (F := Ideal) (iblk m c 0 t) (iblk m c 1 t) j = scales (A0 m c) (A1 m c) (((cfg0.win 3).blk t).view.emb j)
  have e : ((cfg0.win 3).blk t).view.emb j = ValueIdx.ix2 (rowOf t (j 0 : Fin 256)) (j 1 : Fin 42) := by
    refine funext fun a => Fin.ext ?_
    fin_cases a
    · show win0_3.index t (0 : Fin 2) * 256 + 1 * (j 0).val = 256 * t.val + (j 0).val
      rw [(ix3' t).1]; omega
    · show win0_3.index t (1 : Fin 2) * 42 + 1 * (j 1).val = (j 1).val
      rw [(ix3' t).2]; omega
  exact (congrArg (out0_3 (F := Ideal) (iblk m c 0 t) (iblk m c 1 t)) hj).trans ((scales_at m c t _ _).trans (congrArg (scales (A0 m c) (A1 m c)) e).symm)

/-- Every index is in the block of some point that writes back. -/
theorem covered3 (i : S12288x42.Idx) : ∃ t : Fin cfg0.N, (cfg0.win 3).flush t = true ∧ i ∈ ((cfg0.win 3).blk t).view.set := by
  have h0 : (i 0).val < 12288 := (i 0).isLt
  obtain ⟨t, ht⟩ : ∃ t : Fin cfg0.N, t.val = (i 0).val / 256 := ⟨⟨(i 0).val / 256, by rw [pointsN]; omega⟩, rfl⟩
  refine ⟨t, flush0_3 t, ?_⟩
  have h := ((cfg0.win 3).blk t).view.emb_mem_set (ValueIdx.ix2 (⟨(i 0).val % 256, by omega⟩ : Fin 256) (i 1 : Fin 42))
  refine (congrArg (· ∈ ((cfg0.win 3).blk t).view.set) (funext fun a => Fin.ext ?_)).mp h
  fin_cases a
  · show win0_3.index t (0 : Fin 2) * 256 + 1 * ((i 0).val % 256) = (i 0).val
    rw [(ix3' t).1]; omega
  · show win0_3.index t (1 : Fin 2) * 42 + 1 * (i 1).val = (i 1).val
    rw [(ix3' t).2]; omega

/-- The array of scales after the run. -/
theorem final3 : (dats m 0 c).arrAt 3 cfg0.N = scales (A0 m c) (A1 m c) :=
  (dats m 0 c).arrAt_eq_of_cover 3 (scales (A0 m c) (A1 m c)) (fun t _ => flushed3 m c t) covered3

/-- The dequantised values a point's body leaves. -/
theorem values_at (t : Fin cfg0.N) (i : Fin 256) (k : Fin 5376) :
    out0_4 (F := Ideal) (iblk m c 0 t) (iblk m c 1 t) (ValueIdx.ix2 i k) = values (A0 m c) (A1 m c) (ValueIdx.ix2 (rowOf t i) k) := by
  refine (values_out _ _ _ _).trans ?_
  rw [rows, weights]
  rfl

/-- What a point writes back is its block of the dequantised values. -/
theorem flushed4 (t : Fin cfg0.N) :
    (dats m 0 c).flushed 4 t = ((cfg0.win 4).blk t).view.read (Elt Ideal) (values (A0 m c) (A1 m c)) := by
  rw [Value.flushed4]
  funext j
  have hj : j = ValueIdx.ix2 (j 0 : Fin 256) (j 1 : Fin 5376) := by funext a; fin_cases a <;> rfl
  show out0_4 (F := Ideal) (iblk m c 0 t) (iblk m c 1 t) j = values (A0 m c) (A1 m c) (((cfg0.win 4).blk t).view.emb j)
  have e : ((cfg0.win 4).blk t).view.emb j = ValueIdx.ix2 (rowOf t (j 0 : Fin 256)) (j 1 : Fin 5376) := by
    refine funext fun a => Fin.ext ?_
    fin_cases a
    · show win0_4.index t (0 : Fin 2) * 256 + 1 * (j 0).val = 256 * t.val + (j 0).val
      rw [(ix4' t).1]; omega
    · show win0_4.index t (1 : Fin 2) * 5376 + 1 * (j 1).val = (j 1).val
      rw [(ix4' t).2]; omega
  exact (congrArg (out0_4 (F := Ideal) (iblk m c 0 t) (iblk m c 1 t)) hj).trans ((values_at m c t _ _).trans (congrArg (values (A0 m c) (A1 m c)) e).symm)

/-- Every index is in the block of some point that writes back. -/
theorem covered4 (i : S12288x5376.Idx) : ∃ t : Fin cfg0.N, (cfg0.win 4).flush t = true ∧ i ∈ ((cfg0.win 4).blk t).view.set := by
  have h0 : (i 0).val < 12288 := (i 0).isLt
  obtain ⟨t, ht⟩ : ∃ t : Fin cfg0.N, t.val = (i 0).val / 256 := ⟨⟨(i 0).val / 256, by rw [pointsN]; omega⟩, rfl⟩
  refine ⟨t, flush0_4 t, ?_⟩
  have h := ((cfg0.win 4).blk t).view.emb_mem_set (ValueIdx.ix2 (⟨(i 0).val % 256, by omega⟩ : Fin 256) (i 1 : Fin 5376))
  refine (congrArg (· ∈ ((cfg0.win 4).blk t).view.set) (funext fun a => Fin.ext ?_)).mp h
  fin_cases a
  · show win0_4.index t (0 : Fin 2) * 256 + 1 * ((i 0).val % 256) = (i 0).val
    rw [(ix4' t).1]; omega
  · show win0_4.index t (1 : Fin 2) * 5376 + 1 * (i 1).val = (i 1).val
    rw [(ix4' t).2]; omega

/-- The array of dequantised values after the run. -/
theorem final4 : (dats m 0 c).arrAt 4 cfg0.N = values (A0 m c) (A1 m c) :=
  (dats m 0 c).arrAt_eq_of_cover 4 (values (A0 m c) (A1 m c)) (fun t _ => flushed4 m c t) covered4

variable (ρ : Dev nD → PrngReg)

/-- After the run the three results are the reference's functions of the arguments, and the arguments are as launched. -/
theorem run : θ_run defs (onTc (τ := τ) (main (F := Ideal))) ⟨m, fun _ => 0, ρ⟩ fun r => ∀ c : Dev nD,
      r.2.mem ((c : Thread nD τ).loc main_v1_0) = Cert.QuantReferenceIdeal.Value.G2 (F := Ideal) (A0 m c) (A1 m c)
      ∧ r.2.mem ((c : Thread nD τ).loc main_v1_1) = Cert.QuantReferenceIdeal.Value.G3 (F := Ideal) (A0 m c) (A1 m c)
      ∧ r.2.mem ((c : Thread nD τ).loc main_v1_2) = Cert.QuantReferenceIdeal.Value.G4 (F := Ideal) (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨h0, h1, h2, h3, h4⟩ := h c
    refine ⟨h0.trans ?_, h1.trans ?_, h2.trans ?_, h3, h4⟩
    · exact (final2 m c).trans (Cert.QuantReferenceIdeal.Hand.codes_eq (A0 m c) (A1 m c)).symm
    · exact (final3 m c).trans (Cert.QuantReferenceIdeal.Hand.scales_eq' (A0 m c) (A1 m c)).symm
    · exact (final4 m c).trans (Cert.QuantReferenceIdeal.Hand.values_eq (A0 m c) (A1 m c)).symm)
    (Value.run_blocks m ρ)

end Cert.QuantIdeal.Hand

end
-- ==== Proof.lean ====
module

public import proofs.«01_k».proof.Proof.Gen.Quant.Frame
public import proofs.«01_k».proof.Proof.Gen.QuantIdeal.Value
public import proofs.«01_k».proof.Proof.Gen.QuantReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.Run
public import proofs.«01_k».proof.Proof.Value
public import proofs.«01_k».proof.Proof.QuantRun
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The kernel's and the reference's results are the same functions of the arguments. -/
theorem algebraic : Cert.algebraic_KernelIdeal_ReferenceIdeal (hKernelIdeal := Cert.KernelIdeal.Gen.facts) (hReferenceIdeal := Cert.ReferenceIdeal.Gen.facts) := by
  intro m g m' g' _ hag
  refine ⟨_, _, _, Hand.run m g, ?_⟩
  refine (θ_run _ _ _).mono (fun r h c => ?_) (Cert.ReferenceIdeal.Value.run m' g')
  obtain ⟨e0, e1, e2, e3, e4⟩ := hag c
  obtain ⟨h0, h1, h2, hk⟩ := h c
  rw [e0, e1, e2, e3, e4] at h0 h1 h2
  exact ⟨h0, h1, h2, hk⟩

/-- The quantiser's codes, scales and dequantised values are the same functions of the arguments as its reference's. -/
theorem quant_algebraic : Cert.algebraic_QuantIdeal_QuantReferenceIdeal (hQuantIdeal := Cert.QuantIdeal.Gen.facts) (hQuantReferenceIdeal := Cert.QuantReferenceIdeal.Gen.facts) := by
  intro m g m' g' _ hag
  refine ⟨_, _, _, Cert.QuantIdeal.Hand.run m g, ?_⟩
  refine (θ_run _ _ _).mono (fun r h c => ?_) (Cert.QuantReferenceIdeal.Value.run m' g')
  obtain ⟨e0, e1⟩ := hag c
  obtain ⟨h0, h1, h2, hk⟩ := h c
  rw [e0, e1] at h0 h1 h2
  exact ⟨h0, h1, h2, hk⟩

theorem claim : Cert.Claim := ⟨Cert.Kernel.Gen.facts, Cert.KernelIdeal.Gen.facts, Cert.ReferenceIdeal.Gen.facts,
  Cert.Quant.Gen.facts, Cert.QuantIdeal.Gen.facts, Cert.QuantReferenceIdeal.Gen.facts,
  fun m ρ _ => Cert.Kernel.Hand.frame m ρ, fun m ρ _ => Cert.KernelIdeal.Hand.frame m ρ, fun m ρ _ => Cert.ReferenceIdeal.Gen.frame m ρ,
  fun m ρ _ => Cert.Quant.Gen.frame m ρ, fun m ρ _ => Cert.QuantIdeal.Gen.frame m ρ, fun m ρ _ => Cert.QuantReferenceIdeal.Gen.frame m ρ,
  ⟨IdealRules.bf16_pair.packStatement _, IdealRules.bf16_pair.statement _ _ (Cert.KernelIdeal.Gen.facts).toFacts₀.bitcasts_S512x1x2x128_w16_S512x1x1x128_w32⟩, algebraic, trivial, quant_algebraic⟩

end Cert.Proof

end
